-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S3x1024x4096 : Shape := ⟨3, ![3, 1024, 4096]⟩
abbrev S2 : Shape := ⟨1, ![2]⟩
abbrev S2x512x2048 : Shape := ⟨3, ![2, 512, 2048]⟩
abbrev S4x128 : Shape := ⟨2, ![4, 128]⟩
abbrev S4 : Shape := ⟨1, ![4]⟩
abbrev S_ : Shape := ⟨0, ![]⟩
abbrev S1 : Shape := ⟨1, ![1]⟩
abbrev S1x1024x4096 : Shape := ⟨3, ![1, 1024, 4096]⟩
abbrev S512x4096 : Shape := ⟨2, ![512, 4096]⟩
abbrev S4096x1024 : Shape := ⟨2, ![4096, 1024]⟩
abbrev S512x1024 : Shape := ⟨2, ![512, 1024]⟩
abbrev S1x512x1024 : Shape := ⟨3, ![1, 512, 1024]⟩
abbrev S1x1x1 : Shape := ⟨3, ![1, 1, 1]⟩
abbrev S512x2048 : Shape := ⟨2, ![512, 2048]⟩
abbrev S1x512x2048 : Shape := ⟨3, ![1, 512, 2048]⟩
abbrev S1x512x4096 : Shape := ⟨3, ![1, 512, 4096]⟩
abbrev S1x128 : Shape := ⟨2, ![1, 128]⟩
abbrev S1x4x128 : Shape := ⟨3, ![1, 4, 128]⟩
abbrev S1x256x2048 : Shape := ⟨3, ![1, 256, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .bf16⟩
  | .hbm, ⟨2, _⟩ => ⟨S4096x2048, .f32⟩
  | .local _ .vmem, ⟨0, _⟩ => ⟨S1024x4096, .bf16⟩
  | .local _ .vmem, ⟨1, _⟩ => ⟨S4096x2048, .bf16⟩
  | .local _ .vmem, ⟨2, _⟩ => ⟨S3x1024x4096, .bf16⟩
  | .local _ .vmem, ⟨3, _⟩ => ⟨S2x512x2048, .f32⟩
  | .local _ .vmem, ⟨4, _⟩ => ⟨S4x128, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch5 : Ref sig .tc := ⟨.vmem, 3, rfl⟩
abbrev cc0_scratch8 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c4_i32_6 : BitVec 32 := 4#32
  let v10 : BitVec 32 := Scalar.remsi v9 c4_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v13 : BitVec 32 := Scalar.addi v2 c2_i32
  let c4_i32_9 : BitVec 32 := 4#32
  let v14 : BitVec 32 := Scalar.remsi v13 c4_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v17 : BitVec 32 := Scalar.addi v2 c3_i32
  let c4_i32_13 : BitVec 32 := 4#32
  let v18 : BitVec 32 := Scalar.remsi v17 c4_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_21 : BitVec 32 := 1#32
  let v21 : BitVec 32 := Scalar.muli v7 c1_i32_21
  let v22 : BitVec 32 := Scalar.addi c0_i32_22 v21
  v22.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_28 : BitVec 32 := 1#32
  let v29 : BitVec 32 := Scalar.muli v5 c1_i32_28
  let v30 : BitVec 32 := Scalar.addi c0_i32_29 v29
  v30.toNat
def k0_off1 (d0 : Dev nD) (c0_i32_32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v37 : BitVec 32 := Scalar.muli v2 c1024_i32
  let v38 : BitVec 32 := Scalar.addi v37 c0_i32_32
  let c0_i32_55 : BitVec 32 := 0#32
  ![v38.toNat, 0]
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_95 : BitVec 32 := 1#32
  let v117 : BitVec 32 := Scalar.muli v7 c1_i32_95
  let v118 : BitVec 32 := Scalar.addi c0_i32_96 v117
  v118.toNat
def k0_dev7 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_112 : BitVec 32 := 1#32
  let v133 : BitVec 32 := Scalar.muli v5 c1_i32_112
  let v134 : BitVec 32 := Scalar.addi c0_i32_113 v133
  v134.toNat
def k0_off2 (d0 : Dev nD) (c0_i32_122 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_118 : BitVec 32 := 4#32
  let v143 : BitVec 32 := Scalar.addi v2 c4_i32_118
  let c1_i32_119 : BitVec 32 := 1#32
  let v144 : BitVec 32 := Scalar.subi v143 c1_i32_119
  let c4_i32_120 : BitVec 32 := 4#32
  let v145 : BitVec 32 := Scalar.remsi v144 c4_i32_120
  let c1024_i32_121 : BitVec 32 := 1024#32
  let v146 : BitVec 32 := Scalar.muli v145 c1024_i32_121
  let v147 : BitVec 32 := Scalar.addi v146 c0_i32_122
  let c0_i32_153 : BitVec 32 := 0#32
  ![v147.toNat, 0]
def k0_off3 (d0 : Dev nD) (c1_i32_191 : BitVec 32) (c0_i32_194 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v230 : BitVec 32 := Scalar.addi v2 c1_i32_191
  let c4_i32_192 : BitVec 32 := 4#32
  let v231 : BitVec 32 := Scalar.remsi v230 c4_i32_192
  let c1024_i32_193 : BitVec 32 := 1024#32
  let v232 : BitVec 32 := Scalar.muli v231 c1024_i32_193
  let v233 : BitVec 32 := Scalar.addi v232 c0_i32_194
  let c0_i32_225 : BitVec 32 := 0#32
  ![v233.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v454 : Index := Scalar.indexCast v2
  let c0_400 : Index := 0#32
  ![v454.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_407 : BitVec 32 := 0#32
  ![v2.toNat, 0]
def k0_dev8 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_401 : BitVec 32 := 1#32
  let v458 : BitVec 32 := Scalar.addi v2 c1_i32_401
  let c4_i32_402 : BitVec 32 := 4#32
  let v459 : BitVec 32 := Scalar.remsi v458 c4_i32_402
  let c1_i32_405 : BitVec 32 := 1#32
  let v460 : BitVec 32 := Scalar.muli v459 c1_i32_405
  let v461 : BitVec 32 := Scalar.addi c0_i32_406 v460
  v461.toNat
def k0_dev9 (d0 : Dev nD) : Nat :=
  let c0_i32_414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_409 : BitVec 32 := 2#32
  let v468 : BitVec 32 := Scalar.addi v2 c2_i32_409
  let c4_i32_410 : BitVec 32 := 4#32
  let v469 : BitVec 32 := Scalar.remsi v468 c4_i32_410
  let c1_i32_413 : BitVec 32 := 1#32
  let v470 : BitVec 32 := Scalar.muli v469 c1_i32_413
  let v471 : BitVec 32 := Scalar.addi c0_i32_414 v470
  v471.toNat
def k0_dev10 (d0 : Dev nD) : Nat :=
  let c0_i32_422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_417 : BitVec 32 := 3#32
  let v478 : BitVec 32 := Scalar.addi v2 c3_i32_417
  let c4_i32_418 : BitVec 32 := 4#32
  let v479 : BitVec 32 := Scalar.remsi v478 c4_i32_418
  let c1_i32_421 : BitVec 32 := 1#32
  let v480 : BitVec 32 := Scalar.muli v479 c1_i32_421
  let v481 : BitVec 32 := Scalar.addi c0_i32_422 v480
  v481.toNat
def k0_off6 (d0 : Dev nD) (c1_i32_426 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_425 : BitVec 32 := 4#32
  let v488 : BitVec 32 := Scalar.addi v2 c4_i32_425
  let v489 : BitVec 32 := Scalar.subi v488 c1_i32_426
  let c4_i32_427 : BitVec 32 := 4#32
  let v490 : BitVec 32 := Scalar.remsi v489 c4_i32_427
  let c0_i32_432 : BitVec 32 := 0#32
  ![v490.toNat, 0]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Contents.lean ====
/-
What the buffers of one device hold while the kernel runs, written as functions of the memory at launch.

Four devices sit in a ring. Device `c` starts with its rows of `x` and its columns of `w`; it multiplies all rows of
`x` (its own, its two neighbours', the opposite device's) with its columns, and quantises the product with the largest
magnitude found on any device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.KProof

open Cert.KernelIdeal Cert.KernelIdeal.Gen
open Idealize.ShloMosaic Idealize.ShloMosaic.TcCoe Idealize.ShloMosaic.ValueIdx

variable {F : FTy → Type} [FloatOps F]

/-! ## The ring -/

/-- The device `s` places after `c` on the ring. -/
def sh (s : Fin 4) (c : Dev nD) : Dev nD := ⟨(c.val + s.val) % 4, Nat.mod_lt _ (by decide)⟩

theorem sh_zero (c : Dev nD) : sh 0 c = c := by revert c; decide
theorem sh_neg (s : Fin 4) (c : Dev nD) : sh (-s) (sh s c) = c := by revert s c; decide
theorem sh_neg' (s : Fin 4) (c : Dev nD) : sh s (sh (-s) c) = c := by revert s c; decide

/-- Walking `s` places along the ring, as a permutation of the devices. -/
def shEquiv (s : Fin 4) : Dev nD ≃ Dev nD := ⟨sh s, sh (-s), sh_neg s, sh_neg' s⟩

/-! ## The buffers -/

abbrev xM : Memref sig .tc .vmem S1024x4096 .bf16 := Memref.whole cc0_stg0_0
abbrev wM : Memref sig .tc .vmem S4096x2048 .bf16 := Memref.whole cc0_stg1_0
abbrev oM : Memref sig .tc .hbm S4096x2048 .f32 := Memref.whole main_v1
abbrev cM : Memref sig .tc .vmem S3x1024x4096 .bf16 := Memref.whole cc0_scratch0
abbrev sM : Memref sig .tc .vmem S2x512x2048 .f32 := Memref.whole cc0_scratch5
abbrev aM : Memref sig .tc .vmem S4x128 .f32 := Memref.whole cc0_scratch8

variable (m : (ℓ : Loc nD τ sig) → Buf (Elt F) ℓ)

/-- Device `c`'s rows of `x`, as the launch stages them. -/
def xstg (c : Dev nD) : (cc0_stg0_0 : Ref sig .tc).ty.Contents (Elt F) :=
  (win0_0.blk (0 : Fin 1)).view.read (Elt F) (m ((c : Thread nD τ).loc main_arg0))

/-- Device `c`'s columns of `w`, as the launch stages them. -/
def wstg (c : Dev nD) : (cc0_stg1_0 : Ref sig .tc).ty.Contents (Elt F) :=
  (win0_1.blk (0 : Fin 1)).view.read (Elt F) (m ((c : Thread nD τ).loc main_arg1))

/-! ## One tile of the product -/

/-- The 512 rows of a block of `x` starting at row `512 b`. -/
def xRows (x : FVec F S1024x4096 .bf16) (b : Fin 2) : FVec F S512x4096 .bf16 :=
  fun i => x (ix2 (⟨512 * b.val + (i 0).val, by have h : (i 0).val < 512 := (i 0).isLt; have := b.isLt; omega⟩ : Fin 1024) (i 1 : Fin 4096))

/-- The 1024 columns of a block of `w` starting at column `1024 h`. -/
def wCols (w : FVec F S4096x2048 .bf16) (h : Fin 2) : FVec F S4096x1024 .bf16 :=
  fun i => w (ix2 (i 0 : Fin 4096) (⟨1024 * h.val + (i 1).val, by have h' : (i 1).val < 1024 := (i 1).isLt; have := h.isLt; omega⟩ : Fin 2048))

/-- The product of 512 rows with 1024 columns. -/
def gemm (a : FVec F S512x4096 .bf16) (b : FVec F S4096x1024 .bf16) : FVec F S512x1024 .f32 :=
  matmul dot_S512x4096_S4096x1024_S512x1024_1_0_0_1_n_n none a b (constant S512x1024 .f32 0x0#32)

/-- The tile of device `c`'s product from rows `512 b ..` of device `d`'s block of `x` and columns `1024 h ..`. -/
def tile (d c : Dev nD) (b h : Fin 2) : FVec F S512x1024 .f32 := gemm (xRows (xstg m d) b) (wCols (wstg m c) h)

/-- The largest magnitude in a tile. -/
def tileMax (t : FVec F S512x1024 .f32) : F .f32 :=
  extractAt ![0, 0, 0] (shapeCast S1x1x1 (multiReduction .maximumf [1, 2] S1
    (shapeCast S1x512x1024 (absf t) shapeCasts_S512x1024_S1x512x1024) 0xFF800000#32 reduces_S1x512x1024_S1 (.inl rfl) rfl) shapeCasts_S1_S1x1x1)
    inpos_S1x1x1_p0_0_0

/-- The running maximum after the four tiles of device `d`'s rows. -/
def blockMax (d c : Dev nD) (v : F .f32) : F .f32 :=
  Scalar.maximumf (Scalar.maximumf (Scalar.maximumf (Scalar.maximumf v (tileMax (tile m d c 0 0))) (tileMax (tile m d c 0 1)))
    (tileMax (tile m d c 1 0))) (tileMax (tile m d c 1 1))

/-- The largest magnitude device `c` finds in its product: its own rows first, then its left neighbour's, its right
    neighbour's, the opposite device's. -/
def mxF (c : Dev nD) : F .f32 :=
  blockMax m (sh 2 c) c (blockMax m (sh 1 c) c (blockMax m (sh 3 c) c (blockMax m c c (Scalar.ofBits .f32 0x0#32))))

/-! ## The buffers' contents -/

/-- Whose rows each slot of the communication buffer receives: left neighbour, right neighbour, opposite device. -/
def slotSrc (c : Dev nD) (j : Fin 3) : Dev nD := sh (if j = 0 then 3 else if j = 1 then 1 else 2) c

/-- The communication buffer of device `c`, once everything has landed. -/
def commF (c : Dev nD) : FVec F S3x1024x4096 .bf16 :=
  fun i => xstg m (slotSrc c (i 0)) (ix2 (i 1 : Fin 1024) (i 2 : Fin 4096))

/-- The buffer of maxima, once everything has landed: row `d` holds device `d`'s. -/
def amaxF : FVec F S4x128 .f32 := fun i => mxF m (i 0)

/-- The unquantised product of device `c`. -/
def yF (c : Dev nD) : FVec F S4096x2048 .f32 := fun i =>
  tile m (⟨(i 0).val / 1024, by have h : (i 0).val < 4096 := (i 0).isLt; exact Nat.div_lt_of_lt_mul (by omega)⟩ : Dev nD) c
    ⟨(i 0).val / 512 % 2, Nat.mod_lt _ (by decide)⟩
    ⟨(i 1).val / 1024, by have h : (i 1).val < 2048 := (i 1).isLt; exact Nat.div_lt_of_lt_mul (by omega)⟩
    (ix2 (⟨(i 0).val % 512, Nat.mod_lt _ (by decide)⟩ : Fin 512) (⟨(i 1).val % 1024, Nat.mod_lt _ (by decide)⟩ : Fin 1024))

/-- One element quantised: scaled by `inv`, rounded, scaled back by `scale`. -/
def quant (scale inv y : F .f32) : F .f32 := FloatOps.mulf (FloatOps.roundeven (FloatOps.mulf y inv)) scale

/-- The result of device `c`. -/
def qF (c : Dev nD) : FVec F S4096x2048 .f32 := fun i => quant (k0_pay43 (amaxF m)) (k0_pay44 (amaxF m)) (yF m c i)

end Cert.KProof
-- ==== Proof.Protocol.lean ====
/-
The agreement between the four devices: one semaphore counter per message, who raises it, by how much, and what memory
changes hands when it is raised.

Every counter is used once. Device `c` has fifteen of them (`csem`): the shared barrier; one for each block it
receives (its neighbours' rows, the two halves of the opposite device's rows, the three maxima); and one for each block
it sends. The barrier is raised by the three other devices, each of which hands over the memory that `c` will write.
-/
module

public import proofs.«01_k».proof.Proof.Contents

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

abbrev 𝒱₀ : Variants := Variants.none

variable (m : (ℓ : Loc nD τ sig) → Buf (Elt F) ℓ)

/-! ## The counters -/

abbrev barS : Sem sig := (SemArray.scalar (sig.barrier 0 rfl) : Sems sig S_).sem

/-- The fifteen counters of a device: 0 the barrier; 1, 2 the neighbours' rows arriving; 3, 4 the halves of the opposite
    device's rows arriving; 5, 6, 7 the maxima arriving; 8 to 14 the sends of the same blocks completing. -/
def csem : Fin 15 → SemLoc sig :=
  ![.reg barS, .dma (4 : DmaSem sig), .dma (5 : DmaSem sig), .dma (8 : DmaSem sig), .dma (9 : DmaSem sig),
    .dma (19 : DmaSem sig), .dma (20 : DmaSem sig), .dma (21 : DmaSem sig), .dma (2 : DmaSem sig), .dma (3 : DmaSem sig),
    .dma (6 : DmaSem sig), .dma (7 : DmaSem sig), .dma (15 : DmaSem sig), .dma (16 : DmaSem sig), .dma (17 : DmaSem sig)]

/-- Counter `k` of device `c`. -/
abbrev kcell (ck : Dev nD × Fin 15) : GSem nD τ sig := ((ck.1 : Thread nD τ), csem ck.2)

/-- Which of the fifteen a semaphore is, if any. -/
def ix (s : SemLoc sig) : Option (Fin 15) := (List.finRange 15).find? (fun k => decide (csem k = s))

theorem ix_csem (k : Fin 15) : ix (csem k) = some k := by revert k; decide

theorem csem_inj {k k' : Fin 15} (h : csem k = csem k') : k = k' := by
  have := congrArg ix h; rw [ix_csem, ix_csem] at this; exact Option.some.inj this

theorem kcell_inj : Function.Injective kcell := fun p q h => by
  obtain ⟨c, k⟩ := p; obtain ⟨c', k'⟩ := q
  have h1 : (c : Thread nD τ) = (c' : Thread nD τ) := congrArg Prod.fst h
  have h2 : csem k = csem k' := congrArg Prod.snd h
  rw [csem_inj h2, show c = c' from congrArg Prod.fst h1]

/-- How much one raise of counter `k` adds: one for the barrier, the block's size in the semaphore's units otherwise. -/
def amt : Fin 15 → ℕ :=
  ![1, 262144, 262144, 131072, 131072, 16, 16, 16, 262144, 262144, 131072, 131072, 16, 16, 16]

theorem amt_pos (k : Fin 15) : 0 < amt k := by revert k; decide

/-- Who raises counter `k`: the barrier the devices 1, 2, 3 places away, every other one device. -/
def dut (k : Fin 15) : Finset (Fin 4) := if k = 0 then {1, 2, 3} else {0}

/-- The order in which counters are waited for. -/
def lvl : Fin 15 → ℕ := ![1, 2, 2, 3, 3, 4, 4, 4, 0, 0, 0, 0, 0, 0, 0]

/-! ## The pieces of memory that change hands -/

abbrev rL : Rect S3x1024x4096 := Rect.unit (s := S3x1024x4096) ![0, 0, 0] S1x1024x4096.size inb_S3x1024x4096_S1x1024x4096_0_0_0
abbrev rR : Rect S3x1024x4096 := Rect.unit (s := S3x1024x4096) ![1, 0, 0] S1x1024x4096.size inb_S3x1024x4096_S1x1024x4096_1_0_0
abbrev rOlo : Rect S3x1024x4096 := Rect.unit (s := S3x1024x4096) ![2, 0, 0] S1x512x4096.size inb_S3x1024x4096_S1x512x4096_2_0_0
abbrev rOhi : Rect S3x1024x4096 := Rect.unit (s := S3x1024x4096) ![2, 512, 0] S1x512x4096.size inb_S3x1024x4096_S1x512x4096_2_512_0
abbrev rLlo : Rect S3x1024x4096 := Rect.unit (s := S3x1024x4096) ![0, 0, 0] S1x512x4096.size inb_S3x1024x4096_S1x512x4096_0_0_0
abbrev rLhi : Rect S3x1024x4096 := Rect.unit (s := S3x1024x4096) ![0, 512, 0] S1x512x4096.size inb_S3x1024x4096_S1x512x4096_0_512_0
abbrev rRlo : Rect S3x1024x4096 := Rect.unit (s := S3x1024x4096) ![1, 0, 0] S1x512x4096.size inb_S3x1024x4096_S1x512x4096_1_0_0
abbrev rRhi : Rect S3x1024x4096 := Rect.unit (s := S3x1024x4096) ![1, 512, 0] S1x512x4096.size inb_S3x1024x4096_S1x512x4096_1_512_0
/-- Row `d` of the buffer of maxima. -/
abbrev rA (d : Dev nD) : Rect S4x128 := Rect.unit (s := S4x128) (k0_off5 d) S1x128.size (k0_off5_inb d)

/-- A piece of device `c`'s communication buffer. -/
abbrev cPc (c : Dev nD) (R : Rect S3x1024x4096) (q : PosShare TreeShare) (f : FVec F S3x1024x4096 .bf16) : sProp 𝕄 :=
  cM.view.loc (c : Thread nD τ) ↦[cM.view.setOn R.set]{q} f
/-- Row `d` of device `c`'s buffer of maxima. -/
abbrev aPc (c d : Dev nD) (q : PosShare TreeShare) (f : FVec F S4x128 .f32) : sProp 𝕄 :=
  aM.view.loc (c : Thread nD τ) ↦[aM.view.setOn (rA d).set]{q} f
/-- Device `c`'s staged rows of `x`. -/
abbrev xPc (c : Dev nD) (q : PosShare TreeShare) : sProp 𝕄 :=
  xM.view.loc (c : Thread nD τ) ↦{q} xstg m c

/-- The share of a buffer that stays with its device, and the two that travel with transfers. -/
abbrev qA : PosShare TreeShare := fullShare.left
abbrev qB : PosShare TreeShare := fullShare.right.left
abbrev qC : PosShare TreeShare := fullShare.right.right

/-- What the barrier raise from `j` places before `c` hands to `c`: the row of the maxima buffer that `c` will write
    there, and on a neighbour the slots of the communication buffer that `c` will write there. -/
def barPay (c : Dev nD) (j : Fin 4) : sProp 𝕄 :=
  if j = 1 then iprop((∃ f, aPc (sh 3 c) c fullShare f) ∗ (∃ f, cPc (sh 3 c) rR fullShare f) ∗ (∃ f, cPc (sh 3 c) rOhi fullShare f))
  else if j = 2 then iprop(∃ f, aPc (sh 2 c) c fullShare f)
  else iprop((∃ f, aPc (sh 1 c) c fullShare f) ∗ (∃ f, cPc (sh 1 c) rL fullShare f) ∗ (∃ f, cPc (sh 1 c) rOlo fullShare f))

/-- What raising counter `k` of device `c` hands to `c`. -/
def payF (c : Dev nD) (k : Fin 15) (j : Fin 4) : sProp 𝕄 :=
  match k with
  | ⟨0, _⟩ => barPay c j
  | ⟨1, _⟩ => cPc c rL fullShare (commF m c)
  | ⟨2, _⟩ => cPc c rR fullShare (commF m c)
  | ⟨3, _⟩ => cPc c rOlo fullShare (commF m c)
  | ⟨4, _⟩ => cPc c rOhi fullShare (commF m c)
  | ⟨5, _⟩ => aPc c (sh 3 c) fullShare (amaxF m)
  | ⟨6, _⟩ => aPc c (sh 2 c) fullShare (amaxF m)
  | ⟨7, _⟩ => aPc c (sh 1 c) fullShare (amaxF m)
  | ⟨8, _⟩ => xPc m c qB
  | ⟨9, _⟩ => xPc m c qC
  | ⟨10, _⟩ => cPc c rLlo qB (commF m c)
  | ⟨11, _⟩ => cPc c rRhi qB (commF m c)
  | ⟨12, _⟩ => aPc c c qA (amaxF m)
  | ⟨13, _⟩ => aPc c c qB (amaxF m)
  | ⟨_, _⟩ => aPc c c qC (amaxF m)

instance barPay_storable (c : Dev nD) (j : Fin 4) : BI.Storable (upEmb : UEmb _ 𝕄) (barPay (F := F) c j) := by
  unfold barPay
  (repeat' split) <;> infer_instance

instance payF_storable (c : Dev nD) (k : Fin 15) (j : Fin 4) : BI.Storable (upEmb : UEmb _ 𝕄) (payF m c k j) := by
  unfold payF
  split <;> infer_instance

/-! ## The schedule -/

/-- One round: the raises of the fifteen counters of every device, what each adds and what each hands over. -/
def rd : Rounds.Schedule (GSem nD τ sig) (Fin 4) 𝕄 where
  duties g r := if r = 0 ∧ g.1.2 = .tc then (match ix g.2 with | some k => dut k | none => ∅) else ∅
  unitless _ := False
  amount g _ _ := match ix g.2 with | some k => amt k | none => 1
  payload g _ j := match ix g.2 with | some k => payF m g.1.1 k j | none => iprop(emp)
  amount_pos g _ _ _ := by
    split
    · exact amt_pos _
    · exact Nat.one_pos

instance rd_payload_storable (g : GSem nD τ sig) (r : ℕ) (d : Fin 4) :
    BI.Storable (upEmb : UEmb _ 𝕄) ((rd (F := F) m).payload g r d) := by
  show BI.Storable upEmb (match ix g.2 with | some k => payF m g.1.1 k d | none => iprop(emp))
  split <;> infer_instance

theorem duties_k (c : Dev nD) (k : Fin 15) : (rd (F := F) m).duties (kcell (c, k)) 0 = dut k := by
  dsimp only [rd]; rw [if_pos ⟨rfl, rfl⟩, ix_csem]
theorem duties_later (g : GSem nD τ sig) : ∀ r, 1 ≤ r → (rd (F := F) m).duties g r = ∅ :=
  fun r hr => by dsimp only [rd]; rw [if_neg fun h => by omega]
theorem amount_k (c : Dev nD) (k : Fin 15) (d : Fin 4) : (rd (F := F) m).amount (kcell (c, k)) 0 d = amt k := by
  dsimp only [rd]; rw [ix_csem]
theorem payload_k (c : Dev nD) (k : Fin 15) (d : Fin 4) : (rd (F := F) m).payload (kcell (c, k)) 0 d = payF m c k d := by
  dsimp only [rd]; rw [ix_csem]
/-- What a full round adds to counter `k`. -/
def tot (k : Fin 15) : ℕ := if k = 0 then 3 else amt k
theorem tot_eq (k : Fin 15) : ∑ _d ∈ dut k, amt k = tot k := by revert k; decide
theorem expect_k (c : Dev nD) (k : Fin 15) : (rd (F := F) m).expect (kcell (c, k)) 0 = tot k := by
  unfold Schedule.expect Schedule.amountOf
  rw [duties_k, Finset.sum_congr rfl fun d _ => amount_k m c k d, tot_eq]

theorem rest_bar (c : Dev nD) : bigSep ((rd (F := F) m).duties (kcell (c, 0)) 0 \ ∅) (fun d => (rd (F := F) m).payload (kcell (c, 0)) 0 d)
    = iprop(barPay c 1 ∗ barPay c 2 ∗ barPay c 3) := by
  rw [Finset.sdiff_empty, duties_k, bigSep_eq_bigSepL_of_eq [1, 2, 3] (by decide) (by decide), bigSepL_cons_cons, bigSepL_cons_cons, bigSepL_singleton,
    payload_k, payload_k, payload_k]
  rfl
theorem rest_k (c : Dev nD) (k : Fin 15) (hk : k ≠ 0) :
    bigSep ((rd (F := F) m).duties (kcell (c, k)) 0 \ ∅) (fun d => (rd (F := F) m).payload (kcell (c, k)) 0 d) = payF m c k 0 := by
  rw [Finset.sdiff_empty, duties_k, dut, if_neg hk, bigSep_singleton, payload_k]

/-! ## What each device owes; the levels -/

/-- Device `c` owes the raises of a list of counters, each of the device so many places after it. -/
def owedL (c : Dev nD) : List (Fin 4 × Fin 15) → CellTallies nD τ sig Unit
  | [] => 0
  | p :: l => owedL c l + tallyAt (kcell (sh p.1 c, p.2)) () (amt p.2)

/-- The raises device `c` performs on other devices' counters, in program order. -/
def payList : List (Fin 4 × Fin 15) := [(1, 0), (2, 0), (3, 0), (1, 1), (3, 2), (1, 3), (3, 4), (1, 5), (2, 6), (3, 7)]

def L (g : GSem nD τ sig) : Finset Unit := if g.1.2 = .tc then {()} else ∅
def lvS (s : SemLoc sig) : ℕ := match ix s with | some k => lvl k | none => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owedL_pos {c : Dev nD} : ∀ {l : List (Fin 4 × Fin 15)} {g : GSem nD τ sig} {u : Unit}, 0 < owedL c l g u →
    ∃ p ∈ l, g = kcell (sh p.1 c, p.2)
  | [], g, u, h => absurd h (Nat.lt_irrefl 0)
  | p :: l, g, u, h => by
    unfold owedL at h
    rw [Pi.add_apply, Finsupp.add_apply, tallyAt_apply] at h
    by_cases hg : g = kcell (sh p.1 c, p.2)
    · exact ⟨p, List.mem_cons_self, hg⟩
    · rw [if_neg (fun h' => hg h'.1), Nat.add_zero] at h
      obtain ⟨q, hq, e⟩ := owedL_pos h
      exact ⟨q, List.mem_cons_of_mem _ hq, e⟩

/-- A device may wait for a counter below all those it still owes. -/
theorem mayWait_list (c : Dev nD) (sm : SemLoc sig) (l : List (Fin 4 × Fin 15)) (h : ∀ p ∈ l, lvS sm < lvl p.2) :
    (levAts L lv : sProp 𝕄) ⊢ MayWait (c : Thread nD τ) sm () (owedL c l) := by
  refine MayOwe.of_cut (L := L) (lev := lv) (lvS sm) (fun p hp => by rw [Finset.mem_singleton.mp hp, L_tc]; exact Finset.mem_singleton_self _)
    (fun g u hg => by obtain ⟨p, -, rfl⟩ := owedL_pos hg; exact Finset.mem_singleton_self _)
    (fun p hp => by rw [Finset.mem_singleton.mp hp]; exact le_refl _)
    (fun g u hg => by
      obtain ⟨p, hp, rfl⟩ := owedL_pos hg
      have : lv (kcell (sh p.1 c, p.2)) u = lvl p.2 := by unfold lv lvS; rw [ix_csem]
      rw [this]; exact h p hp)

/-! ## The records every device keeps -/

/-- Every counter's invariant, and that its only round has begun. -/
def records (K : Dev nD × Fin 15 → ℕ) : sProp 𝕄 :=
  iprop((bigSep Finset.univ fun ck : Dev nD × Fin 15 => cellInv ER (rd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (c : Dev nD) (k : Fin 15) : records m K ⊢ cellInv ER (rd m) (K (c, k)) (kcell (c, k)) := by
  unfold records
  iintro ⟨H, -⟩
  have h : (bigSep Finset.univ (fun ck : Dev nD × Fin 15 => cellInv ER (rd m) (K ck) (kcell ck)) : sProp 𝕄) ⊢ cellInv ER (rd m) (K (c, k)) (kcell (c, k)) := bigSep_elim (Finset.mem_univ (c, k))
  iapply h; iexact H
theorem reached_at (K : Dev nD × Fin 15 → ℕ) (c : Dev nD) (k : Fin 15) : records m K ⊢ reached ER (kcell (c, k)) 0 := by
  unfold records
  iintro ⟨-, H⟩
  have h : (bigSep Finset.univ (fun ck : Dev nD × Fin 15 => reached ER (kcell ck) 0) : sProp 𝕄) ⊢ reached ER (kcell (c, k)) 0 := bigSep_elim (Finset.mem_univ (c, k))
  iapply h; iexact H

/-! ## The steps -/

section Steps
variable (K : Dev nD × Fin 15 → ℕ)

/-- Raising the barrier of the device `j` places on, handing over what that device needs. -/
theorem wp_bar_signal {α : Type} {Q : α → sProp 𝕄} (c n : Dev nD) (j : Fin 4) (hj : j ∈ dut 0) (hn : n = sh j c)
    {l : List (Fin 4 × Fin 15)} {W : Waits sig Unit} {k : PUnit.{1} → Prog (TpuEff nD τ sig (Elt F) Λ₀ .tc) α} {n1 : ℕ} (h1 : n1 = 1) :
    iprop(records m K ∗ owes (c : Thread nD τ) (owedL c ((j, 0) :: l)) W ∗ dutyTok ER (kcell (sh j c, 0)) 0 j ∗ barPay (sh j c) j)
      ⊢ iprop((owes (c : Thread nD τ) (owedL c l) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS n1) k) Q) := by
  subst hn; subst h1
  iintro ⟨#HR, HO, Ht, Hp⟩ Hk
  iapply (Rounds.wp_signal 𝒱₀ ER (rd m) (c : Thread nD τ) none (dst := (sh j c : Thread nD τ)) (κ := K (sh j c, 0))
      (d := j) (by have := duties_k m (sh j c) 0; rw [show (kcell (sh j c, 0) : GSem nD τ sig) = ((sh j c : Thread nD τ), .reg barS) from rfl] at this; rw [this]; exact hj)
      (amount_k m (sh j c) 0 j) () (owedL c l) rfl) $$ [HO Ht Hp]
  · isplitr; · iapply (inv_at m K (sh j c) 0); iexact HR
    isplitl [HO]; · iexact HO
    isplitl [Ht]; · iexact Ht
    isplitl [Hp]; · rw [show (((sh j c : Thread nD τ), SemLoc.reg barS) : GSem nD τ sig) = kcell (sh j c, 0) from rfl, payload_k, show payF m (sh j c) 0 j = barPay (sh j c) j from rfl]; iexact Hp
    iapply (reached_at m K (sh j c) 0); iexact HR
  iexact Hk

/-- Sending a block to the device `s` places on: the source comes back at counter `k₁` of the sender, the destination, written,
    goes to the receiver at its counter `k₂`. -/
theorem wp_send_block {α : Type} {Q : α → sProp 𝕄} (c n : Dev nD) (s : Fin 4) (hn : n = sh s c) (k₁ k₂ : Fin 15) (hk₁ : k₁ ≠ 0) (hk₂ : k₂ ≠ 0) (ha : amt k₁ = amt k₂)
    {sp sp' : Space} {S : Shape} {e : EltTy} {src : Memref sig .tc sp S e} {dst : Memref sig .tc sp' S e}
    {hsc : dst.view.ref.isScScratch = false} {sS sem : SemLoc sig} (h₁ : sS = csem k₁) (h₂ : sem = csem k₂)
    {hsrc : src.view.WordExact} {hdst : dst.view.WordExact} {hsem : DmaTarget.Typed sp sem (.remote (Dev.tc n : Thread nD τ) dst sS hsc)}
    (hN : dst.view.amount sem = amt k₂)
    {q : PosShare TreeShare} {fs : Buf (Elt F) (src.view.loc (c : Thread nD τ))} {fd : Buf (Elt F) (dst.view.loc (sh s c : Thread nD τ))}
    (hp₁ : (src.view.loc (c : Thread nD τ) ↦[src.view.set]{q} fs : sProp 𝕄) ⊢ payF m c k₁ 0)
    (hp₂ : (dst.view.loc (sh s c : Thread nD τ) ↦[dst.view.set]{fullShare} (dst.view.write (Elt F) fd (src.view.read (Elt F) fs) Finset.univ) : sProp 𝕄)
      ⊢ payF m (sh s c) k₂ 0)
    {l : List (Fin 4 × Fin 15)} {W : Waits sig Unit} {k : PUnit.{1} → Prog (TpuEff nD τ sig (Elt F) Λ₀ .tc) α} :
    iprop(records m K ∗ (src.view.loc (c : Thread nD τ) ↦[src.view.set]{q} fs) ∗ (dst.view.loc (sh s c : Thread nD τ) ↦[dst.view.set]{fullShare} fd)
        ∗ owes (c : Thread nD τ) (owedL c ((s, k₂) :: l)) W ∗ dutyTok ER (kcell (c, k₁)) 0 0 ∗ dutyTok ER (kcell (sh s c, k₂)) 0 0)
      ⊢ iprop(((cred (tallyAt (kcell (c, k₁)) () (tot k₁)) ∗ owes (c : Thread nD τ) (owedL c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sem hsrc hdst hsem) k) Q) := by
  subst hn; subst h₁; subst h₂
  have e1 : tot k₁ = amt k₂ := by unfold tot; rw [if_neg hk₁, ha]
  rw [e1]
  iintro ⟨#HR, Hs, Hd, HO, Ht1, Ht2⟩ Hk
  iapply (Rounds.wp_send_pointsTo 𝒱₀ ER (rd m) (c : Thread nD τ) none (κ₁ := K (c, k₁)) (κ₂ := K (sh s c, k₂))
      (r₁ := 0) (r₂ := 0) (d₁ := 0) (d₂ := 0) (fd := fd)
      (by rw [show (((c : Thread nD τ), csem k₁) : GSem nD τ sig) = kcell (c, k₁) from rfl, duties_k, dut, if_neg hk₁]; exact Finset.mem_singleton_self _)
      (by rw [show (((Dev.tc (sh s c) : Thread nD τ), csem k₂) : GSem nD τ sig) = kcell (sh s c, k₂) from rfl, duties_k, dut, if_neg hk₂]; exact Finset.mem_singleton_self _)
      () () (amt k₂) hN ((amount_k m c k₁ 0).trans ha) (amount_k m (sh s c) k₂ 0) (owedL c l) rfl (W := W)
      (hp₁.trans (Entails.of_eq (payload_k m c k₁ 0).symm)) (hp₂.trans (Entails.of_eq (payload_k m (sh s c) k₂ 0).symm))) $$ [Hs Hd HO Ht1 Ht2]
  · isplitr; · iapply (inv_at m K c k₁); iexact HR
    isplitr; · iapply (inv_at m K (sh s c) k₂); iexact HR
    isplitl [Hs]; · iexact Hs
    isplitl [Hd]; · iexact Hd
    isplitl [HO]; · iexact HO
    isplitl [Ht1]; · iexact Ht1
    isplitr; · iapply (reached_at m K c k₁); iexact HR
    isplitl [Ht2]; · iexact Ht2
    iapply (reached_at m K (sh s c) k₂); iexact HR
  iexact Hk

/-- Waiting for the whole of counter `k`: everything its raises hand over. -/
theorem wp_wait_cell {α : Type} {Q : α → sProp 𝕄} (c : Dev nD) (k : Fin 15) {w : TpuEff nD τ sig (Elt F) Λ₀ .tc PUnit} {sm : SemLoc sig} (h : sm = csem k) {k' : ℕ} (hk' : k' = tot k)
    (hw : ∀ Kk : PUnit → sProp 𝕄, wpE (defs₀ (F := F)) 𝒱₀ (c : Thread nD τ) none Set.univ w Kk = waitSpec (c : Thread nD τ) Set.univ sm k' Kk)
    (l : List (Fin 4 × Fin 15)) (hl : ∀ p ∈ l, lvl k < lvl p.2)
    {W : Waits sig Unit} {kk : PUnit.{1} → Prog (TpuEff nD τ sig (Elt F) Λ₀ .tc) α} :
    iprop(records m K ∗ levAts L lv ∗ cred (tallyAt (kcell (c, k)) () (tot k)) ∗ owes (c : Thread nD τ) (owedL c l) W ∗ atPos ER (kcell (c, k)) 0 ∅ 0)
      ⊢ iprop(((owes (c : Thread nD τ) (owedL c l) (insert (csem k, ()) W) ∗ semVal (kcell (c, k)) 0
            ∗ bigSep ((rd m).duties (kcell (c, k)) 0 \ ∅) (fun d => (rd m).payload (kcell (c, k)) 0 d))
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst h; subst hk'
  iintro ⟨#HR, #Hlev, Hc, HO, Hat⟩ Hk
  iapply (Rounds.wp_wait_rest_token 𝒱₀ ER (rd m) (c : Thread nD τ) none (κ := K (c, k))
      hw (Set.mem_univ _) () (O := owedL c l) (W := W) (R := 0) (m := 0) (T := ∅)
      (by rw [Nat.zero_add]; exact (expect_k m c k).symm)) $$ [Hc HO Hat]
  · isplitr; · iapply (inv_at m K c k); iexact HR
    isplitl [Hc]; · iexact Hc
    isplitl [HO]; · iexact HO
    isplitr; · iapply (mayWait_list c (csem k) l (by unfold lvS; rw [ix_csem]; exact hl)); iexact Hlev
    iexact Hat
  iintro ⟨HO, Hat, -, Hpay⟩
  imod (Rounds.cell_close ER (rd m) (Set.mem_univ (K (c, k))) (fun h => h) (R := 0 + 1) (duties_later m (kcell (c, k)))) $$ [Hat] with Hz
  · isplitr; · iapply (inv_at m K c k); iexact HR
    iexact Hat
  iapply Hk
  isplitl [HO]; · iexact HO
  isplitl [Hz]; · iexact Hz
  iexact Hpay

end Steps

end Cert.KProof
-- ==== Proof.Values.lean ====
/-
What the loads and transfers of the kernel read, in terms of the launch memory.
-/
module

public import proofs.«01_k».proof.Proof.Protocol
public import Idealize.ShloMosaic.Lib.Pipeline.Value

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI

variable {F : FTy → Type} [FloatOps F]
local notation "𝕄" => MT nD τ sig Unit (Elt F) ℕ UU ℕ
variable (m : (ℓ : Loc nD τ sig) → Buf (Elt F) ℓ)

/-! ## Loads -/

/-- A coordinate of an element of a contiguous rectangle. -/
theorem unit_idx_val {s : Shape} (off size : Fin s.rank → ℕ) (inb) (x : (Rect.unit off size inb).shape.Idx) (a : Fin s.rank) :
    ((Rect.unit off size inb).idx x a).val = off a + (x a).val := by
  show off a + 1 * (x a).val = _
  rw [Nat.one_mul]

/-- Rows of one slot of the communication buffer, read as a matrix. -/
theorem comm_rows {n : ℕ} (j o : ℕ) (inb : ∀ a, (![j, o, 0] : Fin 3 → ℕ) a + (![1, n, 4096] : Fin 3 → ℕ) a ≤ S3x1024x4096.size a)
    (h : (⟨3, ![1, n, 4096]⟩ : Shape).ShapeCasts ⟨2, ![n, 4096]⟩) (f : FVec F S3x1024x4096 .bf16) (i : (⟨2, ![n, 4096]⟩ : Shape).Idx) :
    shapeCast ⟨2, ![n, 4096]⟩ (cM.view.readAt (Elt F) (Rect.unit (s := S3x1024x4096) ![j, o, 0] ![1, n, 4096] inb).toLoadRect f) h i
      = f (ix3 (⟨j, by have := inb 0; simpa using this⟩ : Fin 3)
          (⟨o + (i 0).val, by have := inb 1; have hi : (i 0).val < n := (i 0).isLt; simp at this; omega⟩ : Fin 1024) (i 1 : Fin 4096)) := by
  rw [shapeCast_dropUnit_apply (n := 2) ![n, 4096]]
  show f _ = f _
  congr 1
  funext a
  refine Fin.ext ?_
  refine (unit_idx_val (s := S3x1024x4096) _ _ inb _ a).trans ?_
  fin_cases a <;> simp <;> rfl

theorem x_rows (x : FVec F S1024x4096 .bf16) (b : Fin 2) (inb : ∀ a, (![512 * b.val, 0] : Fin 2 → ℕ) a + S512x4096.size a ≤ S1024x4096.size a) :
    xM.view.readAt (Elt F) (Rect.unit (s := S1024x4096) ![512 * b.val, 0] S512x4096.size inb).toLoadRect x = xRows x b := by
  funext i
  show x _ = x _
  congr 1
  funext a
  refine Fin.ext ?_
  refine (unit_idx_val (s := S1024x4096) _ _ inb _ a).trans ?_
  fin_cases a <;> simp <;> rfl

theorem w_cols (w : FVec F S4096x2048 .bf16) (h : Fin 2) (inb : ∀ a, (![0, 1024 * h.val] : Fin 2 → ℕ) a + S4096x1024.size a ≤ S4096x2048.size a) :
    wM.view.readAt (Elt F) (Rect.unit (s := S4096x2048) ![0, 1024 * h.val] S4096x1024.size inb).toLoadRect w = wCols w h := by
  funext i
  show w _ = w _
  congr 1
  funext a
  refine Fin.ext ?_
  refine (unit_idx_val (s := S4096x2048) _ _ inb _ a).trans ?_
  fin_cases a <;> simp <;> rfl

/-! ## Blocks that land -/

/-- A write of what `g` holds under a view leaves `g` there. -/
theorem landed_eq (c : Dev nD) {sp : Space} {S : Shape} {e : EltTy} (v : View sig .tc sp S e) (q : PosShare TreeShare)
    (fd g : Buf (Elt F) (v.loc (c : Thread nD τ))) (X : S.Idx → Elt F e) (h : X = v.read (Elt F) g) :
    (v.loc (c : Thread nD τ) ↦[v.set]{q} v.write (Elt F) fd X Finset.univ : sProp 𝕄) = v.loc (c : Thread nD τ) ↦[v.set]{q} g :=
  pointsTo_congr fun i hi => by
    obtain ⟨x, -, rfl⟩ := Finset.mem_map.mp hi
    rw [View.write_emb_of_mem _ _ (Finset.mem_univ _), h]
    unfold View.read
    simp

/-- The elements of a squeezed slice of a whole buffer are the slice's. -/
theorem slice_set {sp : Space} {s s' : Shape} {e : EltTy} (M : Memref sig .tc sp s e) (r : Rect s) (hr : ∀ a, r.stride a = 1) (hq : r.shape.Squeezes s') :
    ((M.slice r hr).squeeze s' hq).view.set = M.view.setOn r.set := by
  exact (View.set_reshape _ _).trans (View.set_slice _ _)

abbrev cSlot (r : Rect S3x1024x4096) (hr : ∀ a, r.stride a = 1) (S : Shape) (hq : r.shape.Squeezes S) : Memref sig .tc .vmem S .bf16 :=
  (cM.slice r hr).squeeze S hq

theorem read_L (c : Dev nD) (hr) (hq) :
    xM.view.read (Elt F) (xstg m c) = (cSlot rL hr S1024x4096 hq).view.read (Elt F) (commF m (sh 1 c)) := by
  rw [Memref.read_squeeze_slice cM rL hr hq (by decide)]
  funext i
  refine Eq.trans ?_ (comm_rows 0 0 _ _ _ i).symm
  have e : slotSrc (sh 1 c) 0 = c := by revert c; decide
  show xstg m c i = xstg m (slotSrc (sh 1 c) 0) _
  rw [e, eq_ix2 i]
  refine congrArg _ (funext fun a => Fin.ext ?_)
  fin_cases a <;> simp <;> rfl

theorem read_R (c : Dev nD) (hr) (hq) :
    xM.view.read (Elt F) (xstg m c) = (cSlot rR hr S1024x4096 hq).view.read (Elt F) (commF m (sh 3 c)) := by
  rw [Memref.read_squeeze_slice cM rR hr hq (by decide)]
  funext i
  refine Eq.trans ?_ (comm_rows 1 0 _ _ _ i).symm
  have e : slotSrc (sh 3 c) 1 = c := by revert c; decide
  show xstg m c i = xstg m (slotSrc (sh 3 c) 1) _
  rw [e, eq_ix2 i]
  refine congrArg _ (funext fun a => Fin.ext ?_)
  fin_cases a <;> simp <;> rfl

theorem read_Olo (c : Dev nD) (hr) (hq) (hr') (hq') :
    (cSlot rLlo hr' S512x4096 hq').view.read (Elt F) (commF m c) = (cSlot rOlo hr S512x4096 hq).view.read (Elt F) (commF m (sh 1 c)) := by
  rw [Memref.read_squeeze_slice cM rOlo hr hq (by decide), Memref.read_squeeze_slice cM rLlo hr' hq' (by decide)]
  funext i
  refine (comm_rows 0 0 _ _ _ i).trans (Eq.trans ?_ (comm_rows 2 0 _ _ _ i).symm)
  have e : slotSrc (sh 1 c) 2 = slotSrc c 0 := by revert c; decide
  show xstg m (slotSrc c 0) _ = xstg m (slotSrc (sh 1 c) 2) _
  rw [e]

theorem read_Ohi (c : Dev nD) (hr) (hq) (hr') (hq') :
    (cSlot rRhi hr' S512x4096 hq').view.read (Elt F) (commF m c) = (cSlot rOhi hr S512x4096 hq).view.read (Elt F) (commF m (sh 3 c)) := by
  rw [Memref.read_squeeze_slice cM rOhi hr hq (by decide), Memref.read_squeeze_slice cM rRhi hr' hq' (by decide)]
  funext i
  refine (comm_rows 1 512 _ _ _ i).trans (Eq.trans ?_ (comm_rows 2 512 _ _ _ i).symm)
  have e : slotSrc (sh 3 c) 2 = slotSrc c 1 := by revert c; decide
  show xstg m (slotSrc c 1) _ = xstg m (slotSrc (sh 3 c) 2) _
  rw [e]

end Cert.KProof
-- ==== Proof.Pieces.lean ====
/-
The communication buffer and the buffer of maxima cut into the pieces that change hands, and put together again.
-/
module

public import proofs.«01_k».proof.Proof.Values

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-! ## Four pieces of a buffer -/

/-- A buffer held whole is its four pieces. -/
theorem four_eq {ℓ : Loc nD τ sig} (K : Fin 4 → Finset (Idx ℓ)) (hd : ∀ t t', t ≠ t' → Disjoint (K t) (K t'))
    (hu : ∀ i, ∃ t, i ∈ K t) (q : PosShare TreeShare) (f : Buf (Elt F) ℓ) :
    (ℓ ↦{q} f : sProp 𝕄) = iprop((ℓ ↦[K 0]{q} f) ∗ (ℓ ↦[K 1]{q} f) ∗ (ℓ ↦[K 2]{q} f) ∗ ℓ ↦[K 3]{q} f) := by
  have e : (Finset.univ : Finset (Fin 4)).biUnion K = Finset.univ :=
    Finset.eq_univ_iff_forall.mpr fun i => Finset.mem_biUnion.mpr ⟨(hu i).choose, Finset.mem_univ _, (hu i).choose_spec⟩
  have h : (ℓ ↦[(Finset.univ : Finset (Fin 4)).biUnion K]{q} f : sProp 𝕄) = bigSep Finset.univ fun t => ℓ ↦[K t]{q} f :=
    pointsTo_biUnion Finset.univ K (fun t _ t' _ => hd t t')
  rw [e] at h
  refine h.trans ?_
  rw [bigSep_eq_bigSepL_of_eq [0, 1, 2, 3] (by decide) (by decide), bigSepL_cons_cons, bigSepL_cons_cons, bigSepL_cons_cons, bigSepL_singleton]
  rfl

/-- Four pieces with any contents make a whole buffer with some contents. -/
theorem four_join {ℓ : Loc nD τ sig} (K : Fin 4 → Finset (Idx ℓ)) (hd : ∀ t t', t ≠ t' → Disjoint (K t) (K t'))
    (hu : ∀ i, ∃ t, i ∈ K t) (q : PosShare TreeShare) (f0 f1 f2 f3 : Buf (Elt F) ℓ) :
    (iprop((ℓ ↦[K 0]{q} f0) ∗ (ℓ ↦[K 1]{q} f1) ∗ (ℓ ↦[K 2]{q} f2) ∗ ℓ ↦[K 3]{q} f3) : sProp 𝕄) ⊢ iprop(∃ f, ℓ ↦{q} f) := by
  have e : (Finset.univ : Finset (Fin 4)).biUnion K = Finset.univ :=
    Finset.eq_univ_iff_forall.mpr fun i => Finset.mem_biUnion.mpr ⟨(hu i).choose, Finset.mem_univ _, (hu i).choose_spec⟩
  have h : bigSep Finset.univ (fun t => ℓ ↦[K t]{q} (![f0, f1, f2, f3] : Fin 4 → Buf (Elt F) ℓ) t)
      ⊢ (iprop(∃ g, ⌜∀ t ∈ (Finset.univ : Finset (Fin 4)), ∀ i ∈ K t, g i = (![f0, f1, f2, f3] : Fin 4 → Buf (Elt F) ℓ) t i⌝
          ∗ ℓ ↦[(Finset.univ : Finset (Fin 4)).biUnion K]{q} g) : sProp 𝕄) :=
    pointsTo_biUnion_join Finset.univ K _ f0 (fun t _ t' _ => hd t t')
  rw [e, bigSep_eq_bigSepL_of_eq [0, 1, 2, 3] (by decide) (by decide), bigSepL_cons_cons, bigSepL_cons_cons, bigSepL_cons_cons, bigSepL_singleton] at h
  refine h.trans ?_
  iintro ⟨%g, -, H⟩
  iexists g
  iexact H

/-! ## The communication buffer -/

theorem mem_cM (R : Rect S3x1024x4096) (i : S3x1024x4096.Idx) : i ∈ cM.view.setOn R.set ↔ i ∈ R.set :=
  View.mem_setOn (v := cM.view) (x := i)

/-- An element lies in rows `o ..` of a slot. -/
theorem mem_rows (j o n : ℕ) (inb : ∀ a, (![j, o, 0] : Fin 3 → ℕ) a + (![1, n, 4096] : Fin 3 → ℕ) a ≤ S3x1024x4096.size a) (i : S3x1024x4096.Idx) :
    i ∈ (Rect.unit (s := S3x1024x4096) ![j, o, 0] ![1, n, 4096] inb).set ↔ (i 0).val = j ∧ o ≤ (i 1).val ∧ (i 1).val < o + n := by
  rw [Rect.mem_set_unit]
  have h2 : (i 2).val < 4096 := (i 2).isLt
  constructor
  · intro h
    have h0 := h 0; have h1 := h 1
    simp at h0 h1
    omega
  · rintro ⟨h0, h1, h1'⟩ a
    fin_cases a <;> simp <;> omega

def cK : Fin 4 → Finset S3x1024x4096.Idx :=
  ![cM.view.setOn rL.set, cM.view.setOn rR.set, cM.view.setOn rOlo.set, cM.view.setOn rOhi.set]

theorem cK_mem (t : Fin 4) (i : S3x1024x4096.Idx) : i ∈ cK t ↔
    (t = 0 ∧ (i 0).val = 0) ∨ (t = 1 ∧ (i 0).val = 1) ∨ (t = 2 ∧ (i 0).val = 2 ∧ (i 1).val < 512) ∨ (t = 3 ∧ (i 0).val = 2 ∧ 512 ≤ (i 1).val) := by
  have h1 : (i 1).val < 1024 := (i 1).isLt
  fin_cases t
  · show i ∈ cM.view.setOn rL.set ↔ _
    rw [mem_cM, mem_rows]; simp; omega
  · show i ∈ cM.view.setOn rR.set ↔ _
    rw [mem_cM, mem_rows]; simp; omega
  · show i ∈ cM.view.setOn rOlo.set ↔ _
    rw [mem_cM, mem_rows]; simp
  · show i ∈ cM.view.setOn rOhi.set ↔ _
    rw [mem_cM, mem_rows]; simp; omega

theorem cK_disj (t t' : Fin 4) (h : t ≠ t') : Disjoint (cK t) (cK t') := by
  rw [Finset.disjoint_left]
  intro i hi hi'
  rw [cK_mem] at hi hi'
  rcases hi with ⟨rfl, a⟩ | ⟨rfl, a⟩ | ⟨rfl, a, b⟩ | ⟨rfl, a, b⟩ <;> rcases hi' with ⟨rfl, a'⟩ | ⟨rfl, a'⟩ | ⟨rfl, a', b'⟩ | ⟨rfl, a', b'⟩ <;>
    first | exact h rfl | omega

theorem cK_cover (i : S3x1024x4096.Idx) : ∃ t, i ∈ cK t := by
  have h0 : (i 0).val < 3 := (i 0).isLt
  by_cases a : (i 0).val = 0
  · exact ⟨0, (cK_mem 0 i).2 (.inl ⟨rfl, a⟩)⟩
  by_cases b : (i 0).val = 1
  · exact ⟨1, (cK_mem 1 i).2 (.inr (.inl ⟨rfl, b⟩))⟩
  by_cases d : (i 1).val < 512
  · exact ⟨2, (cK_mem 2 i).2 (.inr (.inr (.inl ⟨rfl, by omega, d⟩)))⟩
  · exact ⟨3, (cK_mem 3 i).2 (.inr (.inr (.inr ⟨rfl, by omega, by omega⟩)))⟩

/-- The communication buffer as its four slots. -/
theorem comm_split (c : Dev nD) (f : FVec F S3x1024x4096 .bf16) :
    (cM.view.loc (c : Thread nD τ) ↦{fullShare} f : sProp 𝕄)
      = iprop(cPc c rL fullShare f ∗ cPc c rR fullShare f ∗ cPc c rOlo fullShare f ∗ cPc c rOhi fullShare f) :=
  four_eq (ℓ := cM.view.loc (c : Thread nD τ)) cK cK_disj cK_cover fullShare f

theorem comm_join (c : Dev nD) (f0 f1 f2 f3 : FVec F S3x1024x4096 .bf16) :
    (iprop(cPc c rL fullShare f0 ∗ cPc c rR fullShare f1 ∗ cPc c rOlo fullShare f2 ∗ cPc c rOhi fullShare f3) : sProp 𝕄)
      ⊢ iprop(∃ f, cM.view.loc (c : Thread nD τ) ↦{fullShare} f) :=
  four_join (ℓ := cM.view.loc (c : Thread nD τ)) cK cK_disj cK_cover fullShare f0 f1 f2 f3

/-- A slot as its two halves of rows. -/
theorem halfL (c : Dev nD) (q : PosShare TreeShare) (f : FVec F S3x1024x4096 .bf16) :
    (cPc c rL q f : sProp 𝕄) ⊣⊢ iprop(cPc c rLlo q f ∗ cPc c rLhi q f) := by
  have e : cM.view.setOn rL.set = cM.view.setOn rLlo.set ∪ cM.view.setOn rLhi.set := by
    refine Finset.ext fun i => ?_
    have h1 : (i 1).val < 1024 := (i 1).isLt
    rw [Finset.mem_union]
    refine (mem_cM rL i).trans (Iff.trans ?_ (or_congr (mem_cM rLlo i) (mem_cM rLhi i)).symm)
    rw [mem_rows, mem_rows, mem_rows]; omega
  unfold cPc
  rw [e]
  refine pointsTo_union ?_
  rw [Finset.disjoint_left]
  intro i hi hi'
  have a := (mem_rows _ _ _ _ i).1 ((mem_cM rLlo i).1 hi)
  have b := (mem_rows _ _ _ _ i).1 ((mem_cM rLhi i).1 hi')
  omega

theorem halfR (c : Dev nD) (q : PosShare TreeShare) (f : FVec F S3x1024x4096 .bf16) :
    (cPc c rR q f : sProp 𝕄) ⊣⊢ iprop(cPc c rRlo q f ∗ cPc c rRhi q f) := by
  have e : cM.view.setOn rR.set = cM.view.setOn rRlo.set ∪ cM.view.setOn rRhi.set := by
    refine Finset.ext fun i => ?_
    have h1 : (i 1).val < 1024 := (i 1).isLt
    rw [Finset.mem_union]
    refine (mem_cM rR i).trans (Iff.trans ?_ (or_congr (mem_cM rRlo i) (mem_cM rRhi i)).symm)
    rw [mem_rows, mem_rows, mem_rows]; omega
  unfold cPc
  rw [e]
  refine pointsTo_union ?_
  rw [Finset.disjoint_left]
  intro i hi hi'
  have a := (mem_rows _ _ _ _ i).1 ((mem_cM rRlo i).1 hi)
  have b := (mem_rows _ _ _ _ i).1 ((mem_cM rRhi i).1 hi')
  omega

/-! ## The buffer of maxima -/

theorem mem_aM (R : Rect S4x128) (i : S4x128.Idx) : i ∈ aM.view.setOn R.set ↔ i ∈ R.set :=
  View.mem_setOn (v := aM.view) (x := i)

theorem mem_row (d : Dev nD) (i : S4x128.Idx) : i ∈ (rA d).set ↔ (i 0).val = d.val := by
  unfold rA
  rw [Rect.mem_set_unit, k0_off5_eq]
  have h1 : (i 1).val < 128 := (i 1).isLt
  constructor
  · intro h
    have h0 := h 0
    simp at h0
    omega
  · intro h0 a
    fin_cases a <;> simp <;> omega

theorem sh_inj_left (c : Dev nD) (s t : Fin 4) (h : sh s c = sh t c) : s = t := by revert c s t; decide
theorem sh_reach (c d : Dev nD) : ∃ s, sh s c = d := by revert c d; decide

def aK (c : Dev nD) (t : Fin 4) : Finset S4x128.Idx := aM.view.setOn (rA (sh t c)).set

theorem aK_disj (c : Dev nD) (t t' : Fin 4) (h : t ≠ t') : Disjoint (aK c t) (aK c t') := by
  rw [Finset.disjoint_left]
  intro i hi hi'
  have a := (mem_row _ i).1 ((mem_aM _ i).1 hi)
  have b := (mem_row _ i).1 ((mem_aM _ i).1 hi')
  exact h (sh_inj_left c t t' (Fin.ext (a.symm.trans b)))

theorem aK_cover (c : Dev nD) (i : S4x128.Idx) : ∃ t, i ∈ aK c t := by
  obtain ⟨s, hs⟩ := sh_reach c (i 0)
  exact ⟨s, (mem_aM _ i).2 ((mem_row _ i).2 (by rw [hs]))⟩

/-- The buffer of maxima as its four rows, the device's own first. -/
theorem amax_split (c : Dev nD) (q : PosShare TreeShare) (f : FVec F S4x128 .f32) :
    (aM.view.loc (c : Thread nD τ) ↦{q} f : sProp 𝕄)
      = iprop(aPc c (sh 0 c) q f ∗ aPc c (sh 1 c) q f ∗ aPc c (sh 2 c) q f ∗ aPc c (sh 3 c) q f) :=
  four_eq (ℓ := aM.view.loc (c : Thread nD τ)) (aK c) (aK_disj c) (aK_cover c) q f

/-! ## The slots as the transfers name them -/

variable (m : (ℓ : Loc nD τ sig) → Buf (Elt F) ℓ)

theorem piece_slot (c : Dev nD) {R : Rect S3x1024x4096} (hr : ∀ a, R.stride a = 1) {S : Shape} (hq : R.shape.Squeezes S) (q : PosShare TreeShare) (f : FVec F S3x1024x4096 .bf16) :
    ((cSlot R hr S hq).view.loc (c : Thread nD τ) ↦[(cSlot R hr S hq).view.set]{q} f : sProp 𝕄) = cPc c R q f :=
  congrArg (fun T => (cM.view.loc (c : Thread nD τ) ↦[T]{q} f : sProp 𝕄)) (slice_set cM R hr hq)

theorem landed_slot (c : Dev nD) {R : Rect S3x1024x4096} (hr : ∀ a, R.stride a = 1) {S : Shape} (hq : R.shape.Squeezes S) (fd g : FVec F S3x1024x4096 .bf16)
    (X : S.Idx → Elt F .bf16) (h : X = (cSlot R hr S hq).view.read (Elt F) g) :
    ((cSlot R hr S hq).view.loc (c : Thread nD τ) ↦[(cSlot R hr S hq).view.set]{fullShare} ((cSlot R hr S hq).view.write (Elt F) fd X Finset.univ) : sProp 𝕄) = cPc c R fullShare g :=
  (landed_eq c (cSlot R hr S hq).view fullShare fd g X h).trans (piece_slot c hr hq fullShare g)

theorem x_piece (c : Dev nD) (q : PosShare TreeShare) :
    (xM.view.loc (c : Thread nD τ) ↦[xM.view.set]{q} xstg m c : sProp 𝕄) = xPc m c q :=
  congrArg (fun T => (xM.view.loc (c : Thread nD τ) ↦[T]{q} xstg m c : sProp 𝕄)) (View.set_whole _)

theorem payF_1 (c : Dev nD) : payF m c 1 0 = cPc c rL fullShare (commF m c) := rfl
theorem payF_2 (c : Dev nD) : payF m c 2 0 = cPc c rR fullShare (commF m c) := rfl
theorem payF_3 (c : Dev nD) : payF m c 3 0 = cPc c rOlo fullShare (commF m c) := rfl
theorem payF_4 (c : Dev nD) : payF m c 4 0 = cPc c rOhi fullShare (commF m c) := rfl
theorem payF_5 (c : Dev nD) : payF m c 5 0 = aPc c (sh 3 c) fullShare (amaxF m) := rfl
theorem payF_6 (c : Dev nD) : payF m c 6 0 = aPc c (sh 2 c) fullShare (amaxF m) := rfl
theorem payF_7 (c : Dev nD) : payF m c 7 0 = aPc c (sh 1 c) fullShare (amaxF m) := rfl
theorem payF_8 (c : Dev nD) : payF m c 8 0 = xPc m c qB := rfl
theorem payF_9 (c : Dev nD) : payF m c 9 0 = xPc m c qC := rfl
theorem payF_10 (c : Dev nD) : payF m c 10 0 = cPc c rLlo qB (commF m c) := rfl
theorem payF_11 (c : Dev nD) : payF m c 11 0 = cPc c rRhi qB (commF m c) := rfl
theorem payF_12 (c : Dev nD) : payF m c 12 0 = aPc c c qA (amaxF m) := rfl
theorem payF_13 (c : Dev nD) : payF m c 13 0 = aPc c c qB (amaxF m) := rfl
theorem payF_14 (c : Dev nD) : payF m c 14 0 = aPc c c qC (amaxF m) := rfl

/-! ## The local buffers -/

/-- Device `c`'s staged columns of `w`. -/
abbrev wPc (c : Dev nD) : sProp 𝕄 := wM.view.loc (c : Thread nD τ) ↦{fullShare} wstg m c

abbrev rS0 : Rect S2x512x2048 := Rect.unit (s := S2x512x2048) ![0, 0, 0] S1x512x2048.size inb_S2x512x2048_S1x512x2048_0_0_0
abbrev rS1 : Rect S2x512x2048 := Rect.unit (s := S2x512x2048) ![1, 0, 0] S1x512x2048.size inb_S2x512x2048_S1x512x2048_1_0_0
/-- A slot of the staging buffer, as the transfers name it. -/
abbrev sSlot (r : Rect S2x512x2048) (hr : ∀ a, r.stride a = 1) (hq : r.shape.Squeezes S512x2048) : Memref sig .tc .vmem S512x2048 .f32 :=
  (sM.slice r hr).squeeze S512x2048 hq
abbrev sPc (c : Dev nD) (r : Rect S2x512x2048) (f : FVec F S2x512x2048 .f32) : sProp 𝕄 :=
  sM.view.loc (c : Thread nD τ) ↦[sM.view.setOn r.set]{fullShare} f
/-- 512 rows of the result. -/
abbrev oPc (c : Dev nD) (r : Rect S4096x2048) (f : FVec F S4096x2048 .f32) : sProp 𝕄 :=
  oM.view.loc (c : Thread nD τ) ↦[oM.view.setOn r.set]{fullShare} f

/-! ## Shares -/

/-- A piece in three shares: what stays, and the two that travel. -/
theorem shares3 {ℓ : Loc nD τ sig} (S : Finset (Idx ℓ)) (f : Buf (Elt F) ℓ) :
    (ℓ ↦[S]{fullShare} f : sProp 𝕄) ⊣⊢ iprop((ℓ ↦[S]{qA} f) ∗ (ℓ ↦[S]{qB} f) ∗ ℓ ↦[S]{qC} f) := by
  constructor
  · iintro H
    icases (pointsTo_share (PosShare.mem_left_op_right fullShare)).1 $$ H with ⟨HA, H⟩
    icases (pointsTo_share (PosShare.mem_left_op_right fullShare.right)).1 $$ H with ⟨HB, HC⟩
    isplitl [HA]; · iexact HA
    isplitl [HB]; · iexact HB
    iexact HC
  · iintro ⟨HA, HB, HC⟩
    iapply (pointsTo_share (PosShare.mem_left_op_right fullShare)).2
    isplitl [HA]; · iexact HA
    iapply (pointsTo_share (PosShare.mem_left_op_right fullShare.right)).2
    isplitl [HB]; · iexact HB
    iexact HC

end Cert.KProof
-- ==== Proof.Stretches.lean ====
/-
The kernel's body cut into three stretches: the product (with the exchange of rows), the exchange of the maxima, and the
quantisation.
-/
module

public import proofs.«01_k».proof.Proof.Values

@[expose] public section

set_option maxRecDepth 16384

noncomputable section

namespace Cert.KProof

open Cert.KernelIdeal Cert.KernelIdeal.Gen
open Idealize.ShloMosaic Idealize.ShloMosaic.TcCoe
open Idealize.SL Idealize.SL.Sem

variable {F : FTy → Type} [FloatOps F]

/-- The first stretch: the barrier, the exchange of rows and the unquantised product, up to the wait for its last
    tile's copy; its value is the device's number (as itself and as a word) and the largest magnitude found. -/
def stretch1 : Prog (TpuEff nD τ sig (Elt F) Λ₀ .tc) (Σ' (d0 : Dev nD) (v2 : BitVec 32), F .f32) := do
  let ⟨d0, v2, v5, v7⟩ : Σ' (d0 : Dev nD) (v2 : BitVec 32) (v5 : BitVec 32), BitVec 32 ← k0_part1 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10
  let ⟨v40, v54, v56⟩ : Σ' (v40 : FVec F S512x4096 .bf16) (v54 : F .f32), FVec F S4096x1024 .bf16 ← k0_part2 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v2 v5
  let ⟨v68, v77, v87⟩ : Σ' (v68 : F .f32) (v77 : FVec F S512x4096 .bf16), FVec F S1x512x1024 .f32 ← k0_part3 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v2 v40 v54 v56
  let ⟨v105, c1_i32_95⟩ : Σ' (v105 : F .f32), BitVec 32 ← k0_part4 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v7 v68 v77 v87
  let ⟨v145, v146, c0_i32_122⟩ : Σ' (v145 : BitVec 32) (v146 : BitVec 32), BitVec 32 ← k0_part5 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v2 v5 v7 c1_i32_95
  let ⟨v168, v176⟩ : Σ' (v168 : F .f32), FVec F S512x1024 .f32 ← k0_part6 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v105 v146 c0_i32_122
  let ⟨v182, v191, v207⟩ : Σ' (v182 : F .f32) (v191 : FVec F S512x4096 .bf16), FVec F S1 .f32 ← k0_part7 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v145 v168 v176
  let ⟨v224, v231, v235⟩ : Σ' (v224 : F .f32) (v231 : BitVec 32), FVec F S512x4096 .bf16 ← k0_part8 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v2 v182 v191 v207
  let v268 : F .f32 ← k0_part9 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v224 v235
  let ⟨v296, v299⟩ : Σ' (v296 : F .f32), FVec F S512x1024 .f32 ← k0_part10 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v231 v268
  let ⟨v310, v317, v329⟩ : Σ' (v310 : F .f32) (v317 : BitVec 32), FVec F S512x4096 .bf16 ← k0_part11 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v2 v7 v296 v299
  let v362 : F .f32 ← k0_part12 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v310 v329
  let ⟨v379, v390⟩ : Σ' (v379 : FVec F S512x4096 .bf16), FVec F S1x512x1024 .f32 ← k0_part13 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v5 v317
  let v412 : F .f32 ← k0_part14 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v362 v379 v390
  let v423 : DmaSems sig S1 := cc0_scratch7.slice (Rect.unit (s := S2) ![1] S1.size inb_S2_S1_1)
  let v424 : DmaSems sig S_ := v423.squeeze S_ squeezes_S1_S_
  let v425 : Memref sig .tc .hbm S512x2048 .f32 := oM.slice (Rect.unit (s := S4096x2048) (k0_off3 d0 2#32 512#32) S512x2048.size (k0_off3_inb d0 1 1)) (fun _ => rfl)
  let v426 : Memref sig .tc .vmem S1x512x2048 .f32 := sM.slice (Rect.unit (s := S2x512x2048) ![1, 0, 0] S1x512x2048.size inb_S2x512x2048_S1x512x2048_1_0_0) (fun _ => rfl)
  let v427 : Memref sig .tc .vmem S512x2048 .f32 := v426.squeeze S512x2048 squeezes_S1x512x2048_S512x2048
  Prog.lift (.waitDma2 v424.sem v427 v425 ((View.wordExact_bits rfl).reshape _ _) (View.wordExact_bits rfl))
  pure ⟨d0, v2, v412⟩

/-- The second stretch: the exchange of the maxima; its value is the scale and its inverse. -/
def stretch2 (d0 : Dev nD) (v2 : BitVec 32) (v412 : F .f32) : Prog (TpuEff nD τ sig (Elt F) Λ₀ .tc) (Σ' (v532 : F .f32), F .f32) := do
  let v428 : DmaSems sig S1 := cc0_scratch6.slice (Rect.unit (s := S2) ![0] S1.size inb_S2_S1_0)
  let v429 : DmaSems sig S_ := v428.squeeze S_ squeezes_S1_S_
  let v430 : Memref sig .tc .vmem S1x512x2048 .f32 := sM.slice (Rect.unit (s := S2x512x2048) ![0, 0, 0] S1x512x2048.size inb_S2x512x2048_S1x512x2048_0_0_0) (fun _ => rfl)
  let v431 : Memref sig .tc .vmem S512x2048 .f32 := v430.squeeze S512x2048 squeezes_S1x512x2048_S512x2048
  let v432 : Memref sig .tc .hbm S512x2048 .f32 := oM.slice (Rect.unit (s := S4096x2048) ![0, 0] S512x2048.size inb_S4096x2048_S512x2048_0_0) (fun _ => rfl)
  Prog.lift (.enqueueDma v432 (.here v431) (.dma v429.sem) (View.wordExact_bits rfl) ((View.wordExact_bits rfl).reshape _ _) ⟨Or.inl rfl, trivial⟩)
  let v433 : DmaSems sig S1 := cc0_scratch1.slice (Rect.unit (s := S2) ![0] S1.size inb_S2_S1_0)
  let v434 : DmaSems sig S_ := v433.squeeze S_ squeezes_S1_S_
  let v435 : Memref sig .tc .vmem S1x1024x4096 .bf16 := cM.slice (Rect.unit (s := S3x1024x4096) ![0, 0, 0] S1x1024x4096.size inb_S3x1024x4096_S1x1024x4096_0_0_0) (fun _ => rfl)
  let v436 : Memref sig .tc .vmem S1024x4096 .bf16 := v435.squeeze S1024x4096 squeezes_S1x1024x4096_S1024x4096
  Prog.lift (.waitDma2 v434.sem v436 xM (((Memref.isWhole_whole cc0_scratch0).wordExact_slice rfl _ wordsbf16_S3x1024x4096_S1x1024x4096_0_0_0).reshape _ _) (Memref.isWhole_whole cc0_stg0_0).wordExact)
  let v437 : DmaSems sig S1 := cc0_scratch1.slice (Rect.unit (s := S2) ![1] S1.size inb_S2_S1_1)
  let v438 : DmaSems sig S_ := v437.squeeze S_ squeezes_S1_S_
  let v439 : Memref sig .tc .vmem S1x1024x4096 .bf16 := cM.slice (Rect.unit (s := S3x1024x4096) ![1, 0, 0] S1x1024x4096.size inb_S3x1024x4096_S1x1024x4096_1_0_0) (fun _ => rfl)
  let v440 : Memref sig .tc .vmem S1024x4096 .bf16 := v439.squeeze S1024x4096 squeezes_S1x1024x4096_S1024x4096
  Prog.lift (.waitDma2 v438.sem v440 xM (((Memref.isWhole_whole cc0_scratch0).wordExact_slice rfl _ wordsbf16_S3x1024x4096_S1x1024x4096_1_0_0).reshape _ _) (Memref.isWhole_whole cc0_stg0_0).wordExact)
  k0_part16 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v2 v412
  let c4_i32_443 : BitVec 32 ← k0_part17 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v2
  k0_part18 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 d0 v2 c4_i32_443

/-- The third stretch: the quantisation. -/
def stretch3 (v532 v533 : F .f32) : Prog (TpuEff nD τ sig (Elt F) Λ₀ .tc) PUnit := do
  k0_part19 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 v532 v533
  let ⟨v590, v591⟩ : Σ' (v590 : FVec F S256x2048 .f32), Vec F S1x256x2048 .f32 ← k0_part20 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 v532 v533
  k0_part21 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 v532 v533 v590 v591
  k0_part22 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 v532 v533
  let v680 : FVec F S256x2048 .f32 ← k0_part23 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 v532 v533
  let v708 : FVec F S256x2048 .f32 ← k0_part24 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 v533 v680
  k0_part25 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 v532 v533 v708
  k0_part26 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 v532 v533
  let v797 : FVec F S256x2048 .f32 ← k0_part27 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 v532 v533
  let ⟨v828, v829⟩ : Σ' (v828 : FVec F S256x2048 .f32), FVec F S256x2048 .f32 ← k0_part28 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 v532 v533 v797
  let v831 : Vec F S1x256x2048 .f32 ← Prog.lift (.load sM (Rect.unit (s := S2x512x2048) ![1, 256, 0] S1x256x2048.size inb_S2x512x2048_S1x256x2048_1_256_0).toLoadRect (View.loadsAt_vmem h_S1x256x2048))
  Prog.lift (.store sM (Rect.unit (s := S2x512x2048) ![1, 256, 0] S1x256x2048.size inb_S2x512x2048_S1x256x2048_1_256_0) (k0_pay66 v828 v829) Finset.univ (View.stores_vmem_bits_univ h_S1x256x2048 rfl) (.inl rfl))
  let v834 : DmaSems sig S1 := cc0_scratch7.slice (Rect.unit (s := S2) ![1] S1.size inb_S2_S1_1)
  let v835 : DmaSems sig S_ := v834.squeeze S_ squeezes_S1_S_
  let v836 : Memref sig .tc .hbm S512x2048 .f32 := oM.slice (Rect.unit (s := S4096x2048) ![3584, 0] S512x2048.size inb_S4096x2048_S512x2048_3584_0) (fun _ => rfl)
  let v837 : Memref sig .tc .vmem S1x512x2048 .f32 := sM.slice (Rect.unit (s := S2x512x2048) ![1, 0, 0] S1x512x2048.size inb_S2x512x2048_S1x512x2048_1_0_0) (fun _ => rfl)
  let v838 : Memref sig .tc .vmem S512x2048 .f32 := v837.squeeze S512x2048 squeezes_S1x512x2048_S512x2048
  Prog.lift (.enqueueDma v838 (.here v836) (.dma v835.sem) ((View.wordExact_bits rfl).reshape _ _) (View.wordExact_bits rfl) ⟨Or.inl rfl, trivial⟩)
  let v839 : DmaSems sig S1 := cc0_scratch7.slice (Rect.unit (s := S2) ![0] S1.size inb_S2_S1_0)
  let v840 : DmaSems sig S_ := v839.squeeze S_ squeezes_S1_S_
  let v841 : Memref sig .tc .hbm S512x2048 .f32 := oM.slice (Rect.unit (s := S4096x2048) ![3072, 0] S512x2048.size inb_S4096x2048_S512x2048_3072_0) (fun _ => rfl)
  let v842 : Memref sig .tc .vmem S1x512x2048 .f32 := sM.slice (Rect.unit (s := S2x512x2048) ![0, 0, 0] S1x512x2048.size inb_S2x512x2048_S1x512x2048_0_0_0) (fun _ => rfl)
  let v843 : Memref sig .tc .vmem S512x2048 .f32 := v842.squeeze S512x2048 squeezes_S1x512x2048_S512x2048
  Prog.lift (.waitDma2 v840.sem v843 v841 ((View.wordExact_bits rfl).reshape _ _) (View.wordExact_bits rfl))
  let v844 : DmaSems sig S1 := cc0_scratch7.slice (Rect.unit (s := S2) ![1] S1.size inb_S2_S1_1)
  let v845 : DmaSems sig S_ := v844.squeeze S_ squeezes_S1_S_
  let v846 : Memref sig .tc .hbm S512x2048 .f32 := oM.slice (Rect.unit (s := S4096x2048) ![3584, 0] S512x2048.size inb_S4096x2048_S512x2048_3584_0) (fun _ => rfl)
  let v847 : Memref sig .tc .vmem S1x512x2048 .f32 := sM.slice (Rect.unit (s := S2x512x2048) ![1, 0, 0] S1x512x2048.size inb_S2x512x2048_S1x512x2048_1_0_0) (fun _ => rfl)
  let v848 : Memref sig .tc .vmem S512x2048 .f32 := v847.squeeze S512x2048 squeezes_S1x512x2048_S512x2048
  Prog.lift (.waitDma2 v845.sem v848 v846 ((View.wordExact_bits rfl).reshape _ _) (View.wordExact_bits rfl))
  pure ⟨⟩

/-- The body is the three stretches one after the other. -/
theorem body_eq : cc0_body (F := F) xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10
    = (stretch1 >>= fun r => stretch2 r.1 r.2.1 r.2.2 >>= fun s => stretch3 s.1 s.2) := by
  rw [cc0_body_eq_skeleton]; unfold cc0_body_skel
  rw [k0_part29_eq_skeleton]; unfold k0_part29_skel stretch1 stretch2 stretch3
  simp only [k0_part15_eq_skeleton]; unfold k0_part15_skel
  simp only [bind_assoc, pure_bind]

end Cert.KProof
-- ==== Proof.Body1.lean ====
/-
The first stretch: the barrier, the exchange of rows, the unquantised product.
-/
module

public import proofs.«01_k».proof.Proof.Pieces
public import proofs.«01_k».proof.Proof.Stretches

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)
variable (K : Dev nD × Fin 15 → ℕ)

/-- What a device holds after the barrier: its own row of maxima, and on the other devices the memory it will write. -/
def afterBar (c : Dev nD) : sProp 𝕄 :=
  iprop((∃ f, aPc c c fullShare f) ∗ (∃ f, aPc (sh 1 c) c fullShare f) ∗ (∃ f, aPc (sh 2 c) c fullShare f) ∗ (∃ f, aPc (sh 3 c) c fullShare f)
    ∗ (∃ f, cPc (sh 1 c) rL fullShare f) ∗ (∃ f, cPc (sh 1 c) rOlo fullShare f) ∗ (∃ f, cPc (sh 3 c) rR fullShare f) ∗ (∃ f, cPc (sh 3 c) rOhi fullShare f))

theorem sh_pairs (c : Dev nD) : sh 3 (sh 1 c) = c ∧ sh 2 (sh 2 c) = c ∧ sh 1 (sh 3 c) = c := by revert c; decide

theorem barPay_1 (c : Dev nD) : (barPay (sh 1 c) 1 : sProp 𝕄) = iprop((∃ f, aPc c (sh 1 c) fullShare f) ∗ (∃ f, cPc c rR fullShare f) ∗ (∃ f, cPc c rOhi fullShare f)) := by
  unfold barPay; rw [if_pos rfl, (sh_pairs c).1]
theorem barPay_2 (c : Dev nD) : (barPay (sh 2 c) 2 : sProp 𝕄) = iprop(∃ f, aPc c (sh 2 c) fullShare f) := by
  unfold barPay; rw [if_neg (by decide), if_pos rfl, (sh_pairs c).2.1]
theorem barPay_3 (c : Dev nD) : (barPay (sh 3 c) 3 : sProp 𝕄) = iprop((∃ f, aPc c (sh 3 c) fullShare f) ∗ (∃ f, cPc c rL fullShare f) ∗ (∃ f, cPc c rOlo fullShare f)) := by
  unfold barPay; rw [if_neg (by decide), if_neg (by decide), (sh_pairs c).2.2]

/-- The barrier: each device hands the others what they will write on it, and waits for the same from them. -/
theorem part1_spec (c : Dev nD) (W : Waits sig Unit) (Q : (Σ' (d0 : Dev nD) (v2 : BitVec 32) (v5 : BitVec 32), BitVec 32) → sProp 𝕄) :
    iprop(records m K ∗ levAts L lv ∗ cred (tallyAt (kcell (c, 0)) () (tot 0)) ∗ atPos ER (kcell (c, 0)) 0 ∅ 0
      ∗ owes (c : Thread nD τ) (owedL c payList) W
      ∗ dutyTok ER (kcell (sh 1 c, 0)) 0 1 ∗ dutyTok ER (kcell (sh 2 c, 0)) 0 2 ∗ dutyTok ER (kcell (sh 3 c, 0)) 0 3
      ∗ (∃ f, cM.view.loc (c : Thread nD τ) ↦{fullShare} f) ∗ (∃ f, aM.view.loc (c : Thread nD τ) ↦{fullShare} f))
      ⊢ iprop((∀ r, (⌜r.1 = c⌝ ∗ owes (c : Thread nD τ) (owedL c (payList.drop 3)) (insert (csem 0, ()) W) ∗ semVal (kcell (c, 0)) 0 ∗ afterBar c) -∗ Q r)
        -∗ wp frame (wpE (defs₀ (F := F)) 𝒱₀ (c : Thread nD τ) none) Set.univ
          (k0_part1 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10) Q) := by
  rw [k0_part1_eq_skeleton]
  unfold k0_part1_skel
  simp only [semSignalWord, semWaitWord, Prog.lift, Prog.bind_op, Prog.bind_ret, Prog.pure_eq_ret, wp_deviceId]
  iintro ⟨#HR, #Hlev, Hc, Hat, HO, T1, T2, T3, ⟨%fc, HC⟩, ⟨%fa, HA⟩⟩ HQ
  icases (Entails.of_eq (comm_split c fc)) $$ HC with ⟨CL, CR, COlo, COhi⟩
  icases (Entails.of_eq (amax_split c fullShare fa)) $$ HA with ⟨A0, A1, A2, A3⟩
  iapply (wp_bar_signal m K c _ 1 (by decide) (Fin.ext (k0_dev1_eq c)) rfl) $$ [HO T1 A1 CR COhi]
  · isplitr; · iexact HR
    isplitl [HO]; · iexact HO
    isplitl [T1]; · iexact T1
    rw [barPay_1]
    isplitl [A1]; · iexists fa; iexact A1
    isplitl [CR]; · iexists fc; iexact CR
    iexists fc; iexact COhi
  iintro HO
  iapply (wp_bar_signal m K c _ 2 (by decide) (Fin.ext (k0_dev2_eq c)) rfl) $$ [HO T2 A2]
  · isplitr; · iexact HR
    isplitl [HO]; · iexact HO
    isplitl [T2]; · iexact T2
    rw [barPay_2]
    iexists fa; iexact A2
  iintro HO
  iapply (wp_bar_signal m K c _ 3 (by decide) (Fin.ext (k0_dev3_eq c)) rfl) $$ [HO T3 A3 CL COlo]
  · isplitr; · iexact HR
    isplitl [HO]; · iexact HO
    isplitl [T3]; · iexact T3
    rw [barPay_3]
    isplitl [A3]; · iexists fa; iexact A3
    isplitl [CL]; · iexists fc; iexact CL
    iexists fc; iexact COlo
  iintro HO
  iapply (wp_wait_cell m K c 0 (k' := 3) rfl rfl (wpE_semWait_eq 𝒱₀ (c : Thread nD τ) none Set.univ) (payList.drop 3) (by decide)) $$ [Hc HO Hat]
  · isplitr; · iexact HR
    isplitr; · iexact Hlev
    isplitl [Hc]; · iexact Hc
    isplitl [HO]; · iexact HO
    iexact Hat
  rw [rest_bar]
  iintro ⟨HO, Hz, P1, P2, P3⟩
  rw [wp_ret]
  iapply fupd_intro
  iapply HQ
  isplitr; · ipureintro; rfl
  isplitl [HO]; · iexact HO
  isplitl [Hz]; · iexact Hz
  unfold afterBar
  have e1 : (barPay c 1 : sProp 𝕄) = iprop((∃ f, aPc (sh 3 c) c fullShare f) ∗ (∃ f, cPc (sh 3 c) rR fullShare f) ∗ (∃ f, cPc (sh 3 c) rOhi fullShare f)) := if_pos rfl
  have e2 : (barPay c 2 : sProp 𝕄) = iprop(∃ f, aPc (sh 2 c) c fullShare f) := rfl
  have e3 : (barPay c 3 : sProp 𝕄) = iprop((∃ f, aPc (sh 1 c) c fullShare f) ∗ (∃ f, cPc (sh 1 c) rL fullShare f) ∗ (∃ f, cPc (sh 1 c) rOlo fullShare f)) := rfl
  icases (Entails.of_eq e1) $$ P1 with ⟨P11, P12, P13⟩
  icases (Entails.of_eq e2) $$ P2 with P2
  icases (Entails.of_eq e3) $$ P3 with ⟨P31, P32, P33⟩
  isplitl [A0]
  · iexists fa
    have e0 : (aPc c (sh 0 c) fullShare fa : sProp 𝕄) = aPc c c fullShare fa := by rw [sh_zero]
    iapply (Entails.of_eq e0); iexact A0
  isplitl [P31]; · iexact P31
  isplitl [P2]; · iexact P2
  isplitl [P11]; · iexact P11
  isplitl [P32]; · iexact P32
  isplitl [P33]; · iexact P33
  isplitl [P12]; · iexact P12
  iexact P13

end Cert.KProof
-- ==== Proof.Tiles.lean ====
/-
The result's rows and the staging buffer's halves: what a tile's stores leave there and what its copy delivers.
-/
module

public import proofs.«01_k».proof.Proof.Pieces
public import Idealize.ShloMosaic.Lib.Pipeline.FrameBody

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## Rows of the result -/

/-- The 512 rows of the result that come from half `b` of device `d`'s rows of `x`. -/
def rowsSet (d : Dev nD) (b : Fin 2) : Finset S4096x2048.Idx := Finset.univ.filter fun i => (i 0).val / 512 = 2 * d.val + b.val
/-- The 1024 rows of the result that come from device `d`'s rows of `x`. -/
def blkSet (d : Dev nD) : Finset S4096x2048.Idx := Finset.univ.filter fun i => (i 0).val / 1024 = d.val

abbrev oRow (c d : Dev nD) (b : Fin 2) (f : FVec F S4096x2048 .f32) : sProp 𝕄 :=
  oM.view.loc (c : Thread nD τ) ↦[rowsSet d b]{fullShare} f
abbrev oBlk (c d : Dev nD) (f : FVec F S4096x2048 .f32) : sProp 𝕄 :=
  oM.view.loc (c : Thread nD τ) ↦[blkSet d]{fullShare} f

theorem mem_oM (R : Rect S4096x2048) (i : S4096x2048.Idx) : i ∈ oM.view.setOn R.set ↔ i ∈ R.set :=
  View.mem_setOn (v := oM.view) (x := i)

theorem o_set (d : Dev nD) (b : Fin 2) {off : Fin 2 → ℕ} (h : off = ![1024 * d.val + 512 * b.val, 0])
    (inb : ∀ a, off a + S512x2048.size a ≤ S4096x2048.size a) :
    oM.view.setOn (Rect.unit (s := S4096x2048) off S512x2048.size inb).set = rowsSet d b := by
  subst h
  refine Finset.ext fun i => (mem_oM _ i).trans ?_
  rw [Rect.mem_set_unit, rowsSet, Finset.mem_filter]
  have h1 : (i 1).val < 2048 := (i 1).isLt
  constructor
  · intro h
    have h0 := h 0
    simp at h0
    exact ⟨Finset.mem_univ _, by omega⟩
  · rintro ⟨-, h0⟩ a
    fin_cases a <;> simp <;> omega

/-- A window of 512 rows of the result, by its rows. -/
theorem oPc_eq (c d : Dev nD) (b : Fin 2) {off : Fin 2 → ℕ} (h : off = ![1024 * d.val + 512 * b.val, 0])
    (inb : ∀ a, off a + S512x2048.size a ≤ S4096x2048.size a) (f : FVec F S4096x2048 .f32) :
    (oPc c (Rect.unit (s := S4096x2048) off S512x2048.size inb) f : sProp 𝕄) = oRow c d b f :=
  congrArg (fun T => (oM.view.loc (c : Thread nD τ) ↦[T]{fullShare} f : sProp 𝕄)) (o_set d b h inb)

theorem oBlk_eq (c d : Dev nD) (f : FVec F S4096x2048 .f32) : (oBlk c d f : sProp 𝕄) ⊣⊢ iprop(oRow c d 0 f ∗ oRow c d 1 f) := by
  have e : blkSet d = rowsSet d 0 ∪ rowsSet d 1 := by
    ext i
    simp only [blkSet, rowsSet, Finset.mem_union, Finset.mem_filter, Finset.mem_univ, true_and, Fin.val_zero, Fin.val_one]
    omega
  unfold oBlk oRow
  rw [e]
  refine pointsTo_union ?_
  rw [Finset.disjoint_left]
  intro i hi hi'
  simp only [rowsSet, Finset.mem_filter, Finset.mem_univ, true_and, Fin.val_zero, Fin.val_one] at hi hi'
  omega

/-- The result as its four blocks of rows, the device's own first. -/
theorem o_split (c : Dev nD) (f : FVec F S4096x2048 .f32) :
    (oM.view.loc (c : Thread nD τ) ↦{fullShare} f : sProp 𝕄)
      = iprop(oBlk c (sh 0 c) f ∗ oBlk c (sh 1 c) f ∗ oBlk c (sh 2 c) f ∗ oBlk c (sh 3 c) f) :=
  four_eq (ℓ := oM.view.loc (c : Thread nD τ)) (fun t => blkSet (sh t c))
    (fun t t' h => by
      rw [Finset.disjoint_left]
      intro i hi hi'
      simp only [blkSet, Finset.mem_filter, Finset.mem_univ, true_and] at hi hi'
      exact h (sh_inj_left c t t' (Fin.ext (hi.symm.trans hi'))))
    (fun i => by
      have h : (i 0).val < 4096 := (i 0).isLt
      obtain ⟨s, hs⟩ := sh_reach c (⟨(i 0).val / 1024, by show _ < 4; omega⟩ : Dev nD)
      exact ⟨s, by simp only [blkSet, Finset.mem_filter, Finset.mem_univ, true_and]; rw [hs]⟩)
    fullShare f

/-- An element of the unquantised product, by block of rows and half of the columns. -/
theorem yF_at (c d : Dev nD) (b h : Fin 2) (i : S4096x2048.Idx) (p : Fin 512) (q : Fin 1024)
    (h0 : (i 0).val = 1024 * d.val + 512 * b.val + p.val) (h1 : (i 1).val = 1024 * h.val + q.val) :
    yF m c i = tile m d c b h (ix2 p q) := by
  unfold yF
  have hb := b.isLt; have hp := p.isLt; have hq := q.isLt; have hh := h.isLt
  have e1 : (i 0).val / 1024 = d.val := by omega
  have e2 : (i 0).val / 512 % 2 = b.val := by omega
  have e3 : (i 1).val / 1024 = h.val := by omega
  have e4 : (i 0).val % 512 = p.val := by omega
  have e5 : (i 1).val % 1024 = q.val := by omega
  simp only [e1, e2, e3, e4, e5, Fin.eta]

/-! ## The staging buffer -/

/-- Half `h` of slot `s` of the staging buffer holds a tile. -/
def HalfIs (f : FVec F S2x512x2048 .f32) (s h : Fin 2) (t : FVec F S512x1024 .f32) : Prop :=
  ∀ i : S2x512x2048.Idx, ∀ (p : Fin 512) (q : Fin 1024), (i 0).val = s.val → (i 1).val = p.val → (i 2).val = 1024 * h.val + q.val → f i = t (ix2 p q)

/-- A store of a tile into its half. -/
theorem half_same (s h : Fin 2) {o0 o2 : ℕ} (e0 : o0 = s.val) (e2 : o2 = 1024 * h.val)
    (inb : ∀ a, (![o0, 0, o2] : Fin 3 → ℕ) a + S1x512x1024.size a ≤ S2x512x2048.size a) (f : FVec F S2x512x2048 .f32)
    (L : List (View.Piece (Elt F) S2x512x2048 .f32)) (t : FVec F S512x1024 .f32) (hc) :
    HalfIs (sM.view.writes (Elt F) f (⟨Rect.unit (s := S2x512x2048) ![o0, 0, o2] S1x512x1024.size inb, shapeCast S1x512x1024 t hc⟩ :: L)) s h t := by
  subst e0; subst e2
  intro i p q h0 h1 h2
  rw [View.writes_cons]
  have e : i = (sM.view.slice (Rect.unit (s := S2x512x2048) ![s.val, 0, 1024 * h.val] S1x512x1024.size inb)).emb (ix3 (0 : Fin 1) p q) := by
    funext a
    refine Fin.ext ?_
    refine Eq.trans ?_ (unit_idx_val (s := S2x512x2048) _ _ inb _ a).symm
    fin_cases a
    · simpa using h0
    · simpa using h1
    · simpa using h2
  rw [e, View.write_emb_of_mem _ _ (Finset.mem_univ _)]
  show shapeCast S1x512x1024 t hc (ix3 (0 : Fin 1) p q) = _
  rw [shapeCast_addUnit_apply (n := 2) ![512, 1024]]
  congr 1
  funext a; fin_cases a <;> rfl

/-- A store into another half leaves a half as it was. -/
theorem half_other (s h : Fin 2) {o0 o2 : ℕ} (e : o0 ≠ s.val ∨ (o2 = 0 ∧ h = 1) ∨ (o2 = 1024 ∧ h = 0))
    (inb : ∀ a, (![o0, 0, o2] : Fin 3 → ℕ) a + S1x512x1024.size a ≤ S2x512x2048.size a) (f : FVec F S2x512x2048 .f32)
    (L : List (View.Piece (Elt F) S2x512x2048 .f32)) (w) (t : FVec F S512x1024 .f32)
    (hf : HalfIs (sM.view.writes (Elt F) f L) s h t) :
    HalfIs (sM.view.writes (Elt F) f (⟨Rect.unit (s := S2x512x2048) ![o0, 0, o2] S1x512x1024.size inb, w⟩ :: L)) s h t := by
  intro i p q h0 h1 h2
  rw [View.writes_cons, View.write_of_not_mem]
  · exact hf i p q h0 h1 h2
  · intro hi
    have hi' : i ∈ (Rect.unit (s := S2x512x2048) ![o0, 0, o2] S1x512x1024.size inb).set := by
      have hi2 : i ∈ (sM.view.slice (Rect.unit (s := S2x512x2048) ![o0, 0, o2] S1x512x1024.size inb)).set := hi
      rw [View.set_slice] at hi2
      exact (View.mem_setOn (v := sM.view) (x := i)).1 hi2
    rw [Rect.mem_set_unit] at hi'
    have a0 := hi' 0; have a2 := hi' 2
    simp at a0 a2
    have hq := q.isLt
    rcases e with e | ⟨e, rfl⟩ | ⟨e, rfl⟩
    · omega
    · simp at h2; omega
    · simp at h2; omega

/-- What the copy of a slot reads. -/
theorem slot_read {o : ℕ} (inb : ∀ a, (![o, 0, 0] : Fin 3 → ℕ) a + S1x512x2048.size a ≤ S2x512x2048.size a) (hr) (hq)
    (f : FVec F S2x512x2048 .f32) (i : S512x2048.Idx) :
    (sSlot (Rect.unit (s := S2x512x2048) ![o, 0, 0] S1x512x2048.size inb) hr hq).view.read (Elt F) f i
      = f (ix3 (⟨o, by have := inb 0; simpa using this⟩ : Fin 2) (i 0 : Fin 512) (i 1 : Fin 2048)) := by
  rw [Memref.read_squeeze_slice sM _ hr hq (show S1x512x2048.ShapeCasts S512x2048 by decide), shapeCast_dropUnit_apply (n := 2) ![512, 2048]]
  show f _ = f _
  congr 1
  funext a
  refine Fin.ext ?_
  refine (unit_idx_val (s := S2x512x2048) _ _ inb _ a).trans ?_
  fin_cases a <;> simp <;> rfl

/-- A slot copied into 512 rows of the result, where its contents are those rows of `g`. -/
theorem copy_done (c d : Dev nD) (b : Fin 2) {off : Fin 2 → ℕ} (h : off = ![1024 * d.val + 512 * b.val, 0])
    (inb : ∀ a, off a + S512x2048.size a ≤ S4096x2048.size a) {hr'} {o : ℕ} (inb' : ∀ a, (![o, 0, 0] : Fin 3 → ℕ) a + S1x512x2048.size a ≤ S2x512x2048.size a) {hr} {hq}
    (fo g : FVec F S4096x2048 .f32) (G : FVec F S2x512x2048 .f32)
    (hG : ∀ (i : S2x512x2048.Idx) (j : S4096x2048.Idx), (i 0).val = o → (j 0).val = 1024 * d.val + 512 * b.val + (i 1).val → (j 1).val = (i 2).val → G i = g j) :
    (iprop((oM.view.loc (c : Thread nD τ) ↦[(oM.slice (Rect.unit (s := S4096x2048) off S512x2048.size inb) hr').view.set]{fullShare}
          (oM.slice (Rect.unit (s := S4096x2048) off S512x2048.size inb) hr').view.write (Elt F) fo
            ((sSlot (Rect.unit (s := S2x512x2048) ![o, 0, 0] S1x512x2048.size inb') hr hq).view.read (Elt F) G) Finset.univ)
        ∗ (sM.view.loc (c : Thread nD τ) ↦[(sSlot (Rect.unit (s := S2x512x2048) ![o, 0, 0] S1x512x2048.size inb') hr hq).view.set]{fullShare} G)) : sProp 𝕄)
      ⊢ iprop(oRow c d b g ∗ ∃ f, sPc c (Rect.unit (s := S2x512x2048) ![o, 0, 0] S1x512x2048.size inb') f) := by
  have e1 := (landed_eq c (oM.slice (Rect.unit (s := S4096x2048) off S512x2048.size inb) hr').view fullShare fo g
      ((sSlot (Rect.unit (s := S2x512x2048) ![o, 0, 0] S1x512x2048.size inb') hr hq).view.read (Elt F) G) (by
    subst h
    funext i
    rw [slot_read inb' hr hq G i]
    refine hG _ _ rfl ?_ ?_
    · exact (unit_idx_val (s := S4096x2048) _ _ inb i 0).trans (by simp)
    · exact (unit_idx_val (s := S4096x2048) _ _ inb i 1).trans (by simp))).trans
    ((congrArg (fun T => (oM.view.loc (c : Thread nD τ) ↦[T]{fullShare} g : sProp 𝕄)) (View.set_slice _ _)).trans (oPc_eq c d b h inb g))
  have e2 := congrArg (fun T => (sM.view.loc (c : Thread nD τ) ↦[T]{fullShare} G : sProp 𝕄)) (slice_set sM (Rect.unit (s := S2x512x2048) ![o, 0, 0] S1x512x2048.size inb') hr hq)
  iintro ⟨H1, H2⟩
  isplitl [H1]
  · iapply (Entails.of_eq e1); iexact H1
  · iexists G
    iapply (Entails.of_eq e2); iexact H2

/-- The contents of a slot with both tiles of a row block are those rows of the product. -/
theorem halves_rows (c d : Dev nD) (b s : Fin 2) (G : FVec F S2x512x2048 .f32)
    (h0 : HalfIs G s 0 (tile m d c b 0)) (h1 : HalfIs G s 1 (tile m d c b 1)) (i : S2x512x2048.Idx) (j : S4096x2048.Idx)
    (e0 : (i 0).val = s.val) (e1 : (j 0).val = 1024 * d.val + 512 * b.val + (i 1).val) (e2 : (j 1).val = (i 2).val) : G i = yF m c j := by
  have hi1 : (i 1).val < 512 := (i 1).isLt
  have hi2 : (i 2).val < 2048 := (i 2).isLt
  by_cases hh : (i 2).val < 1024
  · rw [h0 i ⟨_, hi1⟩ ⟨(i 2).val, hh⟩ e0 rfl (by simp)]
    exact (yF_at m c d b 0 j ⟨_, hi1⟩ ⟨(i 2).val, hh⟩ e1 (by simp [e2])).symm
  · rw [h1 i ⟨_, hi1⟩ ⟨(i 2).val - 1024, by omega⟩ e0 rfl (by simp; omega)]
    exact (yF_at m c d b 1 j ⟨_, hi1⟩ ⟨(i 2).val - 1024, by omega⟩ e1 (by simp [e2]; omega)).symm

/-! ## Copies in flight -/

/-- What a copy in flight delivers may be weakened. -/
theorem flight_mono (c : Thread nD τ) (sm : SemLoc sig) (N : ℕ) {D D' : sProp 𝕄} (h : D ⊢ D') :
    (Transfers.Flight countersEmb c sm () N D : sProp 𝕄) ⊢ Transfers.Flight countersEmb c sm () N D' := by
  unfold Transfers.Flight
  iintro ⟨⟨%R, HR, %h1, %h2⟩, HC⟩
  isplitr [HC]
  · iexists R
    isplitl [HR]; · iexact HR
    isplitr
    · ipureintro
      intro Kk
      refine BIBase.Entails.trans ?_ (h1 Kk)
      iintro ⟨HR, Hk⟩
      isplitl [HR]; · iexact HR
      iintro ⟨Hs, HD⟩
      iapply Hk
      isplitl [Hs]; · iexact Hs
      iapply h; iexact HD
    · ipureintro; exact h2
  · iexact HC

/-- Waiting for a local copy while some raises are still owed. -/
theorem wp_wait_copy {α : Type} {Q : α → sProp 𝕄} (c : Dev nD) {sem : DmaSem sig} {sp sp' : Space} {s s' : Shape} {e e' : EltTy}
    {srcw : Memref sig .tc sp' s' e'} {dstw : Memref sig .tc sp s e} {hsrc : srcw.view.WordExact} {hdst : dstw.view.WordExact}
    {k : PUnit.{1} → Prog (TpuEff nD τ sig (Elt F) Λ₀ .tc) α} {N : ℕ} (hN : dstw.view.dmaCredit = N) {D : sProp 𝕄}
    (l : List (Fin 4 × Fin 15)) (hl : ∀ p ∈ l, lvS (.dma sem : SemLoc sig) < lvl p.2) {W : Waits sig Unit} :
    iprop(levAts L lv ∗ Transfers.Flight countersEmb (c : Thread nD τ) (.dma sem) () N D ∗ owes (c : Thread nD τ) (owedL c l) W)
      ⊢ iprop((iprop(D ∗ semVal ((c : Thread nD τ), .dma sem) 0 ∗ owes (c : Thread nD τ) (owedL c l) (insert (SemLoc.dma sem, ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  iintro ⟨#Hlev, HF, HO⟩ Hk
  iapply (Transfers.wp_waitLocalO countersEmb 𝒱₀ (c : Thread nD τ) none () hN) $$ [HF HO]
  · isplitl [HF]; · iexact HF
    isplitl [HO]; · iexact HO
    iapply (mayWait_list c (.dma sem) l hl); iexact Hlev
  iexact Hk

end Cert.KProof
-- ==== Proof.Loads.lean ====
/-
What the loads of the staged blocks and of the communication buffer give, and the two copies in flight.
-/
module

public import proofs.«01_k».proof.Proof.Tiles
public import proofs.«01_k».proof.Proof.Stretches
public import Idealize.ShloMosaic.Lib.Pipeline.Value

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-! ## Loads -/

theorem x_load0 (x : FVec F S1024x4096 .bf16) :
    (View.whole cc0_stg0_0).readAt (Elt F) (Rect.unit (s := S1024x4096) ![0, 0] ![512, 4096] inb_S1024x4096_S512x4096_0_0).toLoadRect x = xRows x 0 := x_rows x 0 _
theorem x_load1 (x : FVec F S1024x4096 .bf16) :
    (View.whole cc0_stg0_0).readAt (Elt F) (Rect.unit (s := S1024x4096) ![512, 0] ![512, 4096] inb_S1024x4096_S512x4096_512_0).toLoadRect x = xRows x 1 := x_rows x 1 _
theorem w_load0 (w : FVec F S4096x2048 .bf16) :
    (View.whole cc0_stg1_0).readAt (Elt F) (Rect.unit (s := S4096x2048) ![0, 0] ![4096, 1024] inb_S4096x2048_S4096x1024_0_0).toLoadRect w = wCols w 0 := w_cols w 0 _
theorem w_load1 (w : FVec F S4096x2048 .bf16) :
    (View.whole cc0_stg1_0).readAt (Elt F) (Rect.unit (s := S4096x2048) ![0, 1024] ![4096, 1024] inb_S4096x2048_S4096x1024_0_1024).toLoadRect w = wCols w 1 := w_cols w 1 _

/-- Half of a slot of the communication buffer, as rows of the device they came from. -/
theorem comm_load (c : Dev nD) (j : Fin 3) (b : Fin 2) {o : ℕ} (ho : o = 512 * b.val)
    (inb : ∀ a, (![j.val, o, 0] : Fin 3 → ℕ) a + S1x512x4096.size a ≤ S3x1024x4096.size a) (h : S1x512x4096.ShapeCasts S512x4096) :
    shapeCast S512x4096 (cM.view.readAt (Elt F) (Rect.unit (s := S3x1024x4096) ![j.val, o, 0] S1x512x4096.size inb).toLoadRect (commF m c)) h
      = xRows (xstg m (slotSrc c j)) b := by
  subst ho
  funext i
  refine (comm_rows (n := 512) j.val (512 * b.val) inb h (commF m c) i).trans ?_
  rfl

theorem comm_load00 (c : Dev nD) (h : S1x512x4096.ShapeCasts S512x4096) :
    @shapeCast S1x512x4096 (F .bf16) S512x4096 ((View.whole cc0_scratch0).readAt (Elt F) (Rect.unit (s := S3x1024x4096) ![0, 0, 0] ![1, 512, 4096] inb_S3x1024x4096_S1x512x4096_0_0_0).toLoadRect (commF m c)) h
      = xRows (xstg m (sh 3 c)) 0 := comm_load m c 0 0 rfl _ h
theorem comm_load01 (c : Dev nD) (h : S1x512x4096.ShapeCasts S512x4096) :
    @shapeCast S1x512x4096 (F .bf16) S512x4096 ((View.whole cc0_scratch0).readAt (Elt F) (Rect.unit (s := S3x1024x4096) ![0, 512, 0] ![1, 512, 4096] inb_S3x1024x4096_S1x512x4096_0_512_0).toLoadRect (commF m c)) h
      = xRows (xstg m (sh 3 c)) 1 := comm_load m c 0 1 rfl _ h
theorem comm_load10 (c : Dev nD) (h : S1x512x4096.ShapeCasts S512x4096) :
    @shapeCast S1x512x4096 (F .bf16) S512x4096 ((View.whole cc0_scratch0).readAt (Elt F) (Rect.unit (s := S3x1024x4096) ![1, 0, 0] ![1, 512, 4096] inb_S3x1024x4096_S1x512x4096_1_0_0).toLoadRect (commF m c)) h
      = xRows (xstg m (sh 1 c)) 0 := comm_load m c 1 0 rfl _ h
theorem comm_load11 (c : Dev nD) (h : S1x512x4096.ShapeCasts S512x4096) :
    @shapeCast S1x512x4096 (F .bf16) S512x4096 ((View.whole cc0_scratch0).readAt (Elt F) (Rect.unit (s := S3x1024x4096) ![1, 512, 0] ![1, 512, 4096] inb_S3x1024x4096_S1x512x4096_1_512_0).toLoadRect (commF m c)) h
      = xRows (xstg m (sh 1 c)) 1 := comm_load m c 1 1 rfl _ h
theorem comm_load20 (c : Dev nD) (h : S1x512x4096.ShapeCasts S512x4096) :
    @shapeCast S1x512x4096 (F .bf16) S512x4096 ((View.whole cc0_scratch0).readAt (Elt F) (Rect.unit (s := S3x1024x4096) ![2, 0, 0] ![1, 512, 4096] inb_S3x1024x4096_S1x512x4096_2_0_0).toLoadRect (commF m c)) h
      = xRows (xstg m (sh 2 c)) 0 := comm_load m c 2 0 rfl _ h
theorem comm_load21 (c : Dev nD) (h : S1x512x4096.ShapeCasts S512x4096) :
    @shapeCast S1x512x4096 (F .bf16) S512x4096 ((View.whole cc0_scratch0).readAt (Elt F) (Rect.unit (s := S3x1024x4096) ![2, 512, 0] ![1, 512, 4096] inb_S3x1024x4096_S1x512x4096_2_512_0).toLoadRect (commF m c)) h
      = xRows (xstg m (sh 2 c)) 1 := comm_load m c 2 1 rfl _ h

/-! ## The state between parts -/

/-- Slot `s` of the staging buffer, its first half holding a tile. -/
abbrev half0 (c : Dev nD) (r : Rect S2x512x2048) (s : Fin 2) (t : FVec F S512x1024 .f32) : sProp 𝕄 :=
  iprop(∃ f, ⌜HalfIs f s 0 t⌝ ∗ sPc c r f)

/-- What the copy of slot `r` into half `b` of device `d`'s rows of the result hands back. -/
def landed (c d : Dev nD) (b : Fin 2) (r : Rect S2x512x2048) : sProp 𝕄 := iprop(oRow c d b (yF m c) ∗ ∃ f, sPc c r f)

/-- The copy of slot `r` into half `b` of device `d`'s rows of the result, under way at counter `n`. -/
abbrev flying (c : Dev nD) (n : DmaSem sig) (d : Dev nD) (b : Fin 2) (r : Rect S2x512x2048) : sProp 𝕄 :=
  Transfers.Flight countersEmb (c : Thread nD τ) (.dma n) () 131072 (landed m c d b r)

/-- Both halves of slot `s` of the staging buffer hold a tile. -/
abbrev halves (c : Dev nD) (r : Rect S2x512x2048) (s : Fin 2) (t u : FVec F S512x1024 .f32) : sProp 𝕄 :=
  iprop(∃ f, ⌜HalfIs f s 0 t ∧ HalfIs f s 1 u⌝ ∗ sPc c r f)

/-- What device `c` still owes, whatever it has waited for. -/
abbrev owing (c : Dev nD) (l : List (Fin 4 × Fin 15)) : sProp 𝕄 := iprop(∃ W, owes (c : Thread nD τ) (owedL c l) W)

theorem off2_sh (c : Dev nD) (r : Fin 2) : k0_off2 c (BitVec.ofNat 32 (512 * r.val)) = ![1024 * (sh 3 c).val + 512 * r.val, 0] := k0_off2_eq c r
theorem off3_sh1 (c : Dev nD) (r : Fin 2) : k0_off3 c 1#32 (BitVec.ofNat 32 (512 * r.val)) = ![1024 * (sh 1 c).val + 512 * r.val, 0] := k0_off3_eq c 0 r
theorem off3_sh2 (c : Dev nD) (r : Fin 2) : k0_off3 c 2#32 (BitVec.ofNat 32 (512 * r.val)) = ![1024 * (sh 2 c).val + 512 * r.val, 0] := k0_off3_eq c 1 r

/-- A copy just started from a slot that holds both tiles of some rows. -/
theorem fly (c : Dev nD) (n : DmaSem sig) (d : Dev nD) (b s : Fin 2) {off : Fin 2 → ℕ} (h : off = ![1024 * d.val + 512 * b.val, 0])
    (inb : ∀ a, off a + S512x2048.size a ≤ S4096x2048.size a) {hr'} {o : ℕ} (ho : o = s.val)
    (inb' : ∀ a, (![o, 0, 0] : Fin 3 → ℕ) a + S1x512x2048.size a ≤ S2x512x2048.size a) {hr} {hq}
    (fo : FVec F S4096x2048 .f32) (G : FVec F S2x512x2048 .f32) (h0 : HalfIs G s 0 (tile m d c b 0)) (h1 : HalfIs G s 1 (tile m d c b 1)) :
    (Transfers.Flight countersEmb (c : Thread nD τ) (.dma n) () 131072
      (iprop((oM.view.loc (c : Thread nD τ) ↦[(oM.slice (Rect.unit (s := S4096x2048) off S512x2048.size inb) hr').view.set]{fullShare}
          (oM.slice (Rect.unit (s := S4096x2048) off S512x2048.size inb) hr').view.write (Elt F) fo
            ((sSlot (Rect.unit (s := S2x512x2048) ![o, 0, 0] S1x512x2048.size inb') hr hq).view.read (Elt F) G) Finset.univ)
        ∗ (sM.view.loc (c : Thread nD τ) ↦[(sSlot (Rect.unit (s := S2x512x2048) ![o, 0, 0] S1x512x2048.size inb') hr hq).view.set]{fullShare} G))) : sProp 𝕄)
      ⊢ flying m c n d b (Rect.unit (s := S2x512x2048) ![o, 0, 0] S1x512x2048.size inb') :=
  flight_mono (c : Thread nD τ) (.dma n) 131072 (copy_done c d b h inb inb' fo (yF m c) G
    (fun i j e0 e1 e2 => halves_rows m c d b s G h0 h1 i j (e0.trans ho) e1 e2))

/-! ## Waits -/

variable (K : Dev nD × Fin 15 → ℕ)

/-- Waiting for the whole of a transfer's counter: what the transfer hands over. -/
theorem wp_wait_block {α : Type} {Q : α → sProp 𝕄} (c : Dev nD) (k : Fin 15) (hk : k ≠ 0) {sem : DmaSem sig} {sp sp' : Space} {s s' : Shape} {e e' : EltTy}
    {srcw : Memref sig .tc sp' s' e'} {dstw : Memref sig .tc sp s e} {hsrc : srcw.view.WordExact} {hdst : dstw.view.WordExact}
    {kk : PUnit.{1} → Prog (TpuEff nD τ sig (Elt F) Λ₀ .tc) α} (h : (.dma sem : SemLoc sig) = csem k) (hN : dstw.view.dmaCredit = tot k)
    (l : List (Fin 4 × Fin 15)) (hl : ∀ p ∈ l, lvl k < lvl p.2) :
    iprop(records m K ∗ levAts L lv ∗ cred (tallyAt (kcell (c, k)) () (tot k)) ∗ owing c l ∗ atPos ER (kcell (c, k)) 0 ∅ 0)
      ⊢ iprop((iprop(payF m c k 0 ∗ semVal (kcell (c, k)) 0 ∗ owing c l)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem srcw dstw hsrc hdst) kk) Q) := by
  iintro ⟨#HR, #Hlev, Hc, ⟨%W, HO⟩, Hat⟩ Hk
  iapply (wp_wait_cell m K c k (w := .waitDma2 sem srcw dstw hsrc hdst) h hN (wpE_waitDma2_eq 𝒱₀ (c : Thread nD τ) none Set.univ) l hl (W := W)) $$ [Hc HO Hat]
  · isplitr; · iexact HR
    isplitr; · iexact Hlev
    isplitl [Hc]; · iexact Hc
    isplitl [HO]; · iexact HO
    iexact Hat
  rw [rest_k m c k hk]
  iintro ⟨HO, Hz, Hp⟩
  iapply Hk
  isplitl [Hp]; · iexact Hp
  isplitl [Hz]; · iexact Hz
  iexists _; iexact HO

/-- Waiting for a tile's copy. -/
theorem wp_wait_tile {α : Type} {Q : α → sProp 𝕄} (c d : Dev nD) (b : Fin 2) (r : Rect S2x512x2048) {sem n : DmaSem sig} {sp sp' : Space} {s s' : Shape} {e e' : EltTy}
    {srcw : Memref sig .tc sp' s' e'} {dstw : Memref sig .tc sp s e} {hsrc : srcw.view.WordExact} {hdst : dstw.view.WordExact}
    {k : PUnit.{1} → Prog (TpuEff nD τ sig (Elt F) Λ₀ .tc) α} (hs : sem = n) (hN : dstw.view.dmaCredit = 131072)
    (l : List (Fin 4 × Fin 15)) (hl : ∀ p ∈ l, lvS (.dma n : SemLoc sig) < lvl p.2) :
    iprop(levAts L lv ∗ flying m c n d b r ∗ owing c l)
      ⊢ iprop((iprop(oRow c d b (yF m c) ∗ (∃ f, sPc c r f) ∗ semVal ((c : Thread nD τ), .dma n) 0 ∗ owing c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  subst hs
  iintro ⟨#Hlev, HF, ⟨%W, HO⟩⟩ Hk
  iapply (wp_wait_copy c hN l hl (W := W)) $$ [HF HO]
  · isplitr; · iexact Hlev
    isplitl [HF]; · iexact HF
    iexact HO
  unfold landed
  iintro ⟨⟨H1, H2⟩, Hz, HO⟩
  iapply Hk
  isplitl [H1]; · iexact H1
  isplitl [H2]; · iexact H2
  isplitl [Hz]; · iexact Hz
  iexists _; iexact HO

end Cert.KProof
-- ==== Proof.BodyA.lean ====
/-
The device's own rows: both halves sent to the neighbours, and the four tiles of the device's own block.
-/
module

public import proofs.«01_k».proof.Proof.Loads

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

variable (K : Dev nD × Fin 15 → ℕ)

set_option sl_exec.dmaWindow true
set_option sl_exec.squeezeSlice true

/-- The device's rows leave for both neighbours; the first tile is computed. -/
theorem part2_spec (c : Dev nD) (v2 v5 : BitVec 32) (Q : (Σ' (v40 : FVec F S512x4096 .bf16) (v54 : F .f32), FVec F S4096x1024 .bf16) → sProp 𝕄) :
    iprop(records m K ∗ owing c (payList.drop 3)
      ∗ dutyTok ER (kcell (c, 8)) 0 0 ∗ dutyTok ER (kcell (sh 1 c, 1)) 0 0 ∗ dutyTok ER (kcell (c, 9)) 0 0 ∗ dutyTok ER (kcell (sh 3 c, 2)) 0 0
      ∗ (∃ f, cPc (sh 1 c) rL fullShare f) ∗ (∃ f, cPc (sh 3 c) rR fullShare f) ∗ xPc m c fullShare ∗ wPc m c ∗ (∃ f, sPc c rS0 f))
      ⊢ iprop((∀ r, (⌜r = ⟨xRows (xstg m c) 0, Scalar.maximumf (Scalar.ofBits .f32 0x0#32) (tileMax (tile m c c 0 0)), wCols (wstg m c) 1⟩⌝
            ∗ owing c (payList.drop 5) ∗ cred (tallyAt (kcell (c, 8)) () (tot 8)) ∗ cred (tallyAt (kcell (c, 9)) () (tot 9))
            ∗ xPc m c qA ∗ wPc m c ∗ half0 c rS0 0 (tile m c c 0 0)) -∗ Q r)
        -∗ wp frame (wpE (defs₀ (F := F)) 𝒱₀ (c : Thread nD τ) none) Set.univ
          (k0_part2 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v2 v5) Q) := by
  rw [k0_part2_eq_skeleton]
  unfold k0_part2_skel
  simp only [Prog.lift, Prog.bind_op, Prog.bind_ret, Prog.pure_eq_ret]
  iintro ⟨#HR, ⟨%W, HO⟩, T8, T1, T9, T2, ⟨%fL, CL⟩, ⟨%fR, CR⟩, HX, HW, ⟨%fs, HS⟩⟩ HQ
  icases (shares3 Finset.univ (xstg m c)).1 $$ HX with ⟨XA, XB, XC⟩
  iapply (wp_send_block m K c _ 1 (Fin.ext (k0_dev4_eq c)) 8 1 (by decide) (by decide) rfl (src := xM) (dst := cSlot rL (fun _ => rfl) S1024x4096 squeezes_S1x1024x4096_S1024x4096) (q := qB) rfl rfl (by decide)
    (fs := xstg m c) (fd := fL) (Entails.of_eq ((x_piece m c qB).trans (payF_8 m c).symm))
    (Entails.of_eq ((landed_slot (sh 1 c) (fun _ => rfl) squeezes_S1x1024x4096_S1024x4096 fL (commF m (sh 1 c)) _ (read_L m c _ _)).trans (payF_1 m (sh 1 c)).symm))) $$ [XB CL HO T8 T1]
  · isplitr; · iexact HR
    isplitl [XB]; · iapply (Entails.of_eq (x_piece m c qB).symm); iexact XB
    isplitl [CL]; · iapply (Entails.of_eq (piece_slot (sh 1 c) (fun _ => rfl) squeezes_S1x1024x4096_S1024x4096 fullShare fL).symm); iexact CL
    isplitl [HO]; · iexact HO
    isplitl [T8]; · iexact T8
    iexact T1
  iintro ⟨C8, HO⟩
  iapply (wp_send_block m K c _ 3 (Fin.ext (k0_dev5_eq c)) 9 2 (by decide) (by decide) rfl (src := xM) (dst := cSlot rR (fun _ => rfl) S1024x4096 squeezes_S1x1024x4096_S1024x4096) (q := qC) rfl rfl (by decide)
    (fs := xstg m c) (fd := fR) (Entails.of_eq ((x_piece m c qC).trans (payF_9 m c).symm))
    (Entails.of_eq ((landed_slot (sh 3 c) (fun _ => rfl) squeezes_S1x1024x4096_S1024x4096 fR (commF m (sh 3 c)) _ (read_R m c _ _)).trans (payF_2 m (sh 3 c)).symm))) $$ [XC CR HO T9 T2]
  · isplitr; · iexact HR
    isplitl [XC]; · iapply (Entails.of_eq (x_piece m c qC).symm); iexact XC
    isplitl [CR]; · iapply (Entails.of_eq (piece_slot (sh 3 c) (fun _ => rfl) squeezes_S1x1024x4096_S1024x4096 fullShare fR).symm); iexact CR
    isplitl [HO]; · iexact HO
    isplitl [T9]; · iexact T9
    iexact T2
  iintro ⟨C9, HO⟩
  sl_exec
  rw [wp_ret]
  iapply fupd_intro
  iapply HQ
  isplitr
  · ipureintro
    dsimp only [part2_spec.sl.v47, part2_spec.sl.HS_1]
    simp only [k0_pay1, k0_pay2, k0_pay3, k0_pay4, View.readCov_cons_toLoadRect, x_load0, w_load0, w_load1, shapeCast_self, shapeCast_shapeCast]
    rfl
  isplitl [HO]; · iexists _; iexact HO
  isplitl [C8]; · iexact C8
  isplitl [C9]; · iexact C9
  isplitl [XA]; · iexact XA
  isplitl [HW]; · iexact HW
  iexists _
  isplitr [HS]
  rotate_left
  · iexact HS
  · ipureintro
    dsimp only [part2_spec.sl.HS_1]
    simp only [k0_pay1, k0_pay2, x_load0, w_load0, shapeCast_self]
    exact half_same 0 0 rfl rfl _ _ _ (tile m c c 0 0) _

/-- The second tile, the copy of the first half of the device's block, and the third tile. -/
theorem part3_spec (c : Dev nD) (l : List (Fin 4 × Fin 15)) (v2 : BitVec 32) (v54 : F .f32) (Q : (Σ' (v68 : F .f32) (v77 : FVec F S512x4096 .bf16), FVec F S1x512x1024 .f32) → sProp 𝕄) :
    iprop(owing c l ∗ semVal ((c : Thread nD τ), .dma (12 : DmaSem sig)) 0
      ∗ xPc m c qA ∗ wPc m c ∗ half0 c rS0 0 (tile m c c 0 0) ∗ (∃ f, sPc c rS1 f) ∗ (∃ f, oRow c c 0 f))
      ⊢ iprop((∀ r, (⌜r = ⟨Scalar.maximumf v54 (tileMax (tile m c c 0 1)), xRows (xstg m c) 1, shapeCast S1x512x1024 (absf (tile m c c 1 0)) shapeCasts_S512x1024_S1x512x1024⟩⌝
            ∗ owing c l ∗ flying m c 12 c 0 rS0
            ∗ xPc m c qA ∗ wPc m c ∗ half0 c rS1 1 (tile m c c 1 0)) -∗ Q r)
        -∗ wp frame (wpE (defs₀ (F := F)) 𝒱₀ (c : Thread nD τ) none) Set.univ
          (k0_part3 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v2 (xRows (xstg m c) 0) v54 (wCols (wstg m c) 1)) Q) := by
  rw [k0_part3_eq_skeleton]
  unfold k0_part3_skel
  simp only [Prog.lift, Prog.bind_op, Prog.bind_ret, Prog.pure_eq_ret]
  iintro ⟨⟨%W, HO⟩, H12, HX, HW, ⟨%f0, %h0, HS0⟩, ⟨%f1, HS1⟩, ⟨%fo, HB⟩⟩ HQ
  have eB : (oPc c (Rect.unit (s := S4096x2048) (k0_off1 c 0#32) S512x2048.size (k0_off1_inb c 0)) fo : sProp 𝕄) = oRow c c 0 fo :=
    oPc_eq c c 0 (k0_off1_eq c 0) (k0_off1_inb c 0) fo
  icases (Entails.of_eq eB.symm) $$ HB with HB
  sl_exec
  rw [wp_ret]
  iapply fupd_intro
  iapply HQ
  isplitr
  · ipureintro
    dsimp only [part3_spec.sl.v61, part3_spec.sl.v84, part3_spec.sl.HS0_1, part3_spec.sl.HS1_1]
    simp only [k0_pay5, k0_pay6, k0_pay7, k0_pay8, k0_pay9, View.readCov_cons_toLoadRect, x_load1, w_load0, shapeCast_self, shapeCast_shapeCast]
    rfl
  isplitl [HO]; · iexists _; iexact HO
  isplitl [H12]
  · iapply (fly m c 12 c 0 0 (k0_off1_eq c 0) (k0_off1_inb c 0) rfl inb_S2x512x2048_S1x512x2048_0_0_0 fo (sM.view.writes (Elt F) f0 (part3_spec.sl.HS0_1 m c))
        (half_other 0 0 (.inr (.inr ⟨rfl, rfl⟩)) _ _ [] _ _ h0) (half_same 0 1 rfl rfl _ _ [] (tile m c c 0 1) shapeCasts_S512x1024_S1x512x1024))
    iexact H12
  isplitl [HX]; · iexact HX
  isplitl [HW]; · iexact HW
  iexists _
  isplitr [HS1]
  rotate_left
  · iexact HS1
  · ipureintro
    dsimp only [part3_spec.sl.HS1_1]
    simp only [k0_pay7, k0_pay8, x_load1, w_load0, shapeCast_self]
    exact half_same 1 0 rfl rfl _ _ _ (tile m c c 1 0) _

/-- The fourth tile and the copy of the second half of the device's block; the left neighbour's rows arrive. -/
theorem part4_spec (c : Dev nD) (v7 : BitVec 32) (v68 : F .f32) (Q : (Σ' (v105 : F .f32), BitVec 32) → sProp 𝕄) :
    iprop(records m K ∗ levAts L lv ∗ owing c (payList.drop 5) ∗ semVal ((c : Thread nD τ), .dma (13 : DmaSem sig)) 0
      ∗ cred (tallyAt (kcell (c, 1)) () (tot 1)) ∗ atPos ER (kcell (c, 1)) 0 ∅ 0
      ∗ wPc m c ∗ half0 c rS1 1 (tile m c c 1 0) ∗ (∃ f, oRow c c 1 f))
      ⊢ iprop((∀ r, (⌜r = ⟨Scalar.maximumf (Scalar.maximumf v68 (tileMax (tile m c c 1 0))) (tileMax (tile m c c 1 1)), 1#32⟩⌝
            ∗ owing c (payList.drop 5) ∗ flying m c 13 c 1 rS1 ∗ wPc m c ∗ semVal (kcell (c, 1)) 0 ∗ cPc c rL fullShare (commF m c)) -∗ Q r)
        -∗ wp frame (wpE (defs₀ (F := F)) 𝒱₀ (c : Thread nD τ) none) Set.univ
          (k0_part4 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v7 v68 (xRows (xstg m c) 1) (shapeCast S1x512x1024 (absf (tile m c c 1 0)) shapeCasts_S512x1024_S1x512x1024)) Q) := by
  rw [k0_part4_eq_skeleton]
  unfold k0_part4_skel
  simp only [Prog.lift, Prog.bind_op, Prog.bind_ret, Prog.pure_eq_ret]
  iintro ⟨#HR, #Hlev, ⟨%W, HO⟩, H13, Hc, Hat, HW, ⟨%f1, %h1, HS1⟩, ⟨%fo, HB⟩⟩ HQ
  have eB : (oPc c (Rect.unit (s := S4096x2048) (k0_off1 c 512#32) S512x2048.size (k0_off1_inb c 1)) fo : sProp 𝕄) = oRow c c 1 fo :=
    oPc_eq c c 1 (k0_off1_eq c 1) (k0_off1_inb c 1) fo
  icases (Entails.of_eq eB.symm) $$ HB with HB
  sl_exec
  iapply (wp_wait_block m K c 1 (by decide) rfl (by decide) (payList.drop 5) (by decide)) $$ [Hc HO Hat]
  · isplitr; · iexact HR
    isplitr; · iexact Hlev
    isplitl [Hc]; · iexact Hc
    isplitl [HO]; · iexists _; iexact HO
    iexact Hat
  iintro ⟨Hp, Hz, HO⟩
  rw [wp_ret]
  iapply fupd_intro
  iapply HQ
  isplitr
  · ipureintro
    dsimp only [part4_spec.sl.v98, part4_spec.sl.HS1_1]
    simp only [k0_pay10, k0_pay11, View.readCov_cons_toLoadRect, w_load1, shapeCast_self, shapeCast_shapeCast]
    rfl
  isplitl [HO]; · iexact HO
  isplitl [H13]
  · iapply (fly m c 13 c 1 1 (k0_off1_eq c 1) (k0_off1_inb c 1) rfl inb_S2x512x2048_S1x512x2048_1_0_0 fo (sM.view.writes (Elt F) f1 (part4_spec.sl.HS1_1 m c))
        (half_other 1 0 (.inr (.inr ⟨rfl, rfl⟩)) _ _ [] _ _ h1) (by
          dsimp only [part4_spec.sl.HS1_1]
          simp only [k0_pay10, w_load1, shapeCast_self]
          exact half_same 1 1 rfl rfl _ _ [] (tile m c c 1 1) shapeCasts_S512x1024_S1x512x1024))
    iexact H13
  isplitl [HW]; · iexact HW
  isplitl [Hz]; · iexact Hz
  iapply (Entails.of_eq (payF_1 m c)); iexact Hp

end Cert.KProof
-- ==== Proof.Forward.lean ====
/-
The halves of the neighbours' rows forwarded to the opposite devices.
-/
module

public import proofs.«01_k».proof.Proof.Loads

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

variable (K : Dev nD × Fin 15 → ℕ)

set_option sl_exec.dmaWindow true
set_option sl_exec.squeezeSlice true
set_option maxHeartbeats 1000000

/-- Half of what came from each neighbour goes on to the other one. -/
theorem part5_spec (c : Dev nD) (v2 v5 v7 w : BitVec 32) (Q : (Σ' (v145 : BitVec 32) (v146 : BitVec 32), BitVec 32) → sProp 𝕄) :
    iprop(records m K ∗ levAts L lv ∗ owing c (payList.drop 5)
      ∗ dutyTok ER (kcell (c, 10)) 0 0 ∗ dutyTok ER (kcell (sh 1 c, 3)) 0 0 ∗ dutyTok ER (kcell (c, 11)) 0 0 ∗ dutyTok ER (kcell (sh 3 c, 4)) 0 0
      ∗ cred (tallyAt (kcell (c, 2)) () (tot 2)) ∗ atPos ER (kcell (c, 2)) 0 ∅ 0
      ∗ (∃ f, cPc (sh 1 c) rOlo fullShare f) ∗ (∃ f, cPc (sh 3 c) rOhi fullShare f) ∗ cPc c rL fullShare (commF m c))
      ⊢ iprop((∀ r, (owing c (payList.drop 7) ∗ cred (tallyAt (kcell (c, 10)) () (tot 10)) ∗ cred (tallyAt (kcell (c, 11)) () (tot 11))
            ∗ semVal (kcell (c, 2)) 0
            ∗ cPc c rLlo qA (commF m c) ∗ cPc c rLlo qC (commF m c) ∗ cPc c rLhi fullShare (commF m c)
            ∗ cPc c rRlo fullShare (commF m c) ∗ cPc c rRhi qA (commF m c) ∗ cPc c rRhi qC (commF m c)) -∗ Q r)
        -∗ wp frame (wpE (defs₀ (F := F)) 𝒱₀ (c : Thread nD τ) none) Set.univ
          (k0_part5 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v2 v5 v7 w) Q) := by
  rw [k0_part5_eq_skeleton]
  unfold k0_part5_skel
  simp only [Prog.lift, Prog.bind_op, Prog.bind_ret, Prog.pure_eq_ret]
  iintro ⟨#HR, #Hlev, ⟨%W, HO⟩, T10, T3, T11, T4, Hc, Hat, ⟨%f1, C1⟩, ⟨%f2, C2⟩, CL⟩ HQ
  icases (halfL c fullShare (commF m c)).1 $$ CL with ⟨CLlo, CLhi⟩
  icases (shares3 _ (commF m c)).1 $$ CLlo with ⟨XA, XB, XC⟩
  iapply (wp_send_block m K c _ 1 (Fin.ext (k0_dev6_eq c)) 10 3 (by decide) (by decide) rfl (src := cSlot rLlo (fun _ => rfl) S512x4096 squeezes_S1x512x4096_S512x4096)
    (dst := cSlot rOlo (fun _ => rfl) S512x4096 squeezes_S1x512x4096_S512x4096) (q := qB) rfl rfl (by decide)
    (fs := commF m c) (fd := f1) (Entails.of_eq ((piece_slot c (fun _ => rfl) squeezes_S1x512x4096_S512x4096 qB (commF m c)).trans (payF_10 m c).symm))
    (Entails.of_eq ((landed_slot (sh 1 c) (fun _ => rfl) squeezes_S1x512x4096_S512x4096 f1 (commF m (sh 1 c)) _ (read_Olo m c _ _ _ _)).trans (payF_3 m (sh 1 c)).symm))) $$ [XB C1 HO T10 T3]
  · isplitr; · iexact HR
    isplitl [XB]; · iapply (Entails.of_eq (piece_slot c (fun _ => rfl) squeezes_S1x512x4096_S512x4096 qB (commF m c)).symm); iexact XB
    isplitl [C1]; · iapply (Entails.of_eq (piece_slot (sh 1 c) (fun _ => rfl) squeezes_S1x512x4096_S512x4096 fullShare f1).symm); iexact C1
    isplitl [HO]; · iexact HO
    isplitl [T10]; · iexact T10
    iexact T3
  iintro ⟨C10, HO⟩
  iapply (wp_wait_block m K c 2 (by decide) rfl (by decide) (payList.drop 6) (by decide)) $$ [Hc HO Hat]
  · isplitr; · iexact HR
    isplitr; · iexact Hlev
    isplitl [Hc]; · iexact Hc
    isplitl [HO]; · iexists _; iexact HO
    iexact Hat
  iintro ⟨Hp, Hz, ⟨%W', HO⟩⟩
  icases (Entails.of_eq (payF_2 m c)) $$ Hp with CR
  icases (halfR c fullShare (commF m c)).1 $$ CR with ⟨CRlo, CRhi⟩
  icases (shares3 _ (commF m c)).1 $$ CRhi with ⟨YA, YB, YC⟩
  iapply (wp_send_block m K c _ 3 (Fin.ext (k0_dev7_eq c)) 11 4 (by decide) (by decide) rfl (src := cSlot rRhi (fun _ => rfl) S512x4096 squeezes_S1x512x4096_S512x4096)
    (dst := cSlot rOhi (fun _ => rfl) S512x4096 squeezes_S1x512x4096_S512x4096) (q := qB) rfl rfl (by decide)
    (fs := commF m c) (fd := f2) (Entails.of_eq ((piece_slot c (fun _ => rfl) squeezes_S1x512x4096_S512x4096 qB (commF m c)).trans (payF_11 m c).symm))
    (Entails.of_eq ((landed_slot (sh 3 c) (fun _ => rfl) squeezes_S1x512x4096_S512x4096 f2 (commF m (sh 3 c)) _ (read_Ohi m c _ _ _ _)).trans (payF_4 m (sh 3 c)).symm))) $$ [YB C2 HO T11 T4]
  · isplitr; · iexact HR
    isplitl [YB]; · iapply (Entails.of_eq (piece_slot c (fun _ => rfl) squeezes_S1x512x4096_S512x4096 qB (commF m c)).symm); iexact YB
    isplitl [C2]; · iapply (Entails.of_eq (piece_slot (sh 3 c) (fun _ => rfl) squeezes_S1x512x4096_S512x4096 fullShare f2).symm); iexact C2
    isplitl [HO]; · iexact HO
    isplitl [T11]; · iexact T11
    iexact T4
  iintro ⟨C11, HO⟩
  rw [wp_ret]
  iapply fupd_intro
  iapply HQ
  isplitl [HO]; · iexists _; iexact HO
  isplitl [C10]; · iexact C10
  isplitl [C11]; · iexact C11
  isplitl [Hz]; · iexact Hz
  isplitl [XA]; · iexact XA
  isplitl [XC]; · iexact XC
  isplitl [CLhi]; · iexact CLhi
  isplitl [CRlo]; · iexact CRlo
  isplitl [YA]; · iexact YA
  iexact YC

end Cert.KProof
-- ==== Proof.BodyB.lean ====
/-
The neighbours' rows forwarded to the opposite devices, and the tiles of the left neighbour's rows.
-/
module

public import proofs.«01_k».proof.Proof.Loads

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

variable (K : Dev nD × Fin 15 → ℕ)

set_option sl_exec.dmaWindow true
set_option sl_exec.squeezeSlice true

/-- The first two tiles of the left neighbour's rows. -/
theorem part6_spec (c : Dev nD) (v105 : F .f32) (v146 w : BitVec 32) (Q : (Σ' (v168 : F .f32), FVec F S512x1024 .f32) → sProp 𝕄) :
    iprop(levAts L lv ∗ owing c (payList.drop 7) ∗ flying m c 12 c 0 rS0 ∗ cPc c rLlo qA (commF m c) ∗ wPc m c)
      ⊢ iprop((∀ r, (⌜r = ⟨Scalar.maximumf v105 (tileMax (tile m (sh 3 c) c 0 0)), tile m (sh 3 c) c 0 1⟩⌝
            ∗ owing c (payList.drop 7) ∗ oRow c c 0 (yF m c) ∗ semVal ((c : Thread nD τ), .dma (12 : DmaSem sig)) 0
            ∗ cPc c rLlo qA (commF m c) ∗ wPc m c ∗ halves c rS0 0 (tile m (sh 3 c) c 0 0) (tile m (sh 3 c) c 0 1)) -∗ Q r)
        -∗ wp frame (wpE (defs₀ (F := F)) 𝒱₀ (c : Thread nD τ) none) Set.univ
          (k0_part6 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v105 v146 w) Q) := by
  rw [k0_part6_eq_skeleton]
  unfold k0_part6_skel
  simp only [Prog.lift, Prog.bind_op, Prog.bind_ret, Prog.pure_eq_ret]
  iintro ⟨#Hlev, HO, HF, HC, HW⟩ HQ
  sl_exec
  iapply (wp_wait_tile m c c 0 rS0 (n := 12) rfl rfl (payList.drop 7) (by decide)) $$ [HF HO]
  · isplitr; · iexact Hlev
    isplitl [HF]; · iexact HF
    iexact HO
  iintro ⟨HR, ⟨%f0, HS0⟩, Hz, HO⟩
  sl_exec
  rw [wp_ret]
  iapply fupd_intro
  iapply HQ
  isplitr
  · ipureintro
    dsimp only [part6_spec.sl.v161, part6_spec.sl.v175, part6_spec.sl.HS0_1, part6_spec.sl.HS0_2]
    simp only [k0_pay12, k0_pay13, k0_pay14, k0_pay15, k0_pay16, View.readCov_cons_toLoadRect, comm_load00, w_load0, w_load1, shapeCast_self, shapeCast_shapeCast]
    rfl
  isplitl [HO]; · iexact HO
  isplitl [HR]; · iexact HR
  isplitl [Hz]; · iexact Hz
  isplitl [HC]; · iexact HC
  isplitl [HW]; · iexact HW
  iexists _
  isplitr [HS0]
  rotate_left
  · iexact HS0
  · ipureintro
    dsimp only [part6_spec.sl.HS0_1, part6_spec.sl.HS0_2]
    simp only [k0_pay12, k0_pay13, k0_pay15, comm_load00, w_load0, w_load1, shapeCast_self]
    exact ⟨half_other 0 0 (.inr (.inr ⟨rfl, rfl⟩)) _ _ _ _ _ (half_same 0 0 rfl rfl _ _ _ (tile m (sh 3 c) c 0 0) _), half_same 0 1 rfl rfl _ _ _ (tile m (sh 3 c) c 0 1) _⟩

/-- The copy of the first half of the left neighbour's block, and its third tile. -/
theorem part7_spec (c : Dev nD) (v145 : BitVec 32) (v168 : F .f32) (Q : (Σ' (v182 : F .f32) (v191 : FVec F S512x4096 .bf16), FVec F S1 .f32) → sProp 𝕄) :
    iprop(levAts L lv ∗ owing c (payList.drop 7) ∗ semVal ((c : Thread nD τ), .dma (12 : DmaSem sig)) 0
      ∗ halves c rS0 0 (tile m (sh 3 c) c 0 0) (tile m (sh 3 c) c 0 1) ∗ (∃ f, oRow c (sh 3 c) 0 f)
      ∗ flying m c 13 c 1 rS1 ∗ cPc c rLhi fullShare (commF m c) ∗ wPc m c)
      ⊢ iprop((∀ r, (⌜r = ⟨Scalar.maximumf v168 (tileMax (tile m (sh 3 c) c 0 1)), xRows (xstg m (sh 3 c)) 1, multiReduction .maximumf [1, 2] S1
              (shapeCast S1x512x1024 (absf (tile m (sh 3 c) c 1 0)) shapeCasts_S512x1024_S1x512x1024) 0xFF800000#32 reduces_S1x512x1024_S1 (.inl rfl) rfl⟩⌝
            ∗ owing c (payList.drop 7) ∗ flying m c 12 (sh 3 c) 0 rS0 ∗ oRow c c 1 (yF m c) ∗ semVal ((c : Thread nD τ), .dma (13 : DmaSem sig)) 0
            ∗ cPc c rLhi fullShare (commF m c) ∗ wPc m c ∗ half0 c rS1 1 (tile m (sh 3 c) c 1 0)) -∗ Q r)
        -∗ wp frame (wpE (defs₀ (F := F)) 𝒱₀ (c : Thread nD τ) none) Set.univ
          (k0_part7 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v145 v168 (tile m (sh 3 c) c 0 1)) Q) := by
  rw [k0_part7_eq_skeleton]
  unfold k0_part7_skel
  simp only [Prog.lift, Prog.bind_op, Prog.bind_ret, Prog.pure_eq_ret]
  iintro ⟨#Hlev, HO, H12, ⟨%f0, %h0, HS0⟩, ⟨%fo, HB⟩, HF, HC, HW⟩ HQ
  have eB : (oPc c (Rect.unit (s := S4096x2048) (k0_off2 c 0#32) S512x2048.size (k0_off2_inb c 0)) fo : sProp 𝕄) = oRow c (sh 3 c) 0 fo :=
    oPc_eq c (sh 3 c) 0 (off2_sh c 0) (k0_off2_inb c 0) fo
  icases (Entails.of_eq eB.symm) $$ HB with HB
  sl_exec
  iapply (wp_wait_tile m c c 1 rS1 (n := 13) rfl rfl (payList.drop 7) (by decide)) $$ [HF HO]
  · isplitr; · iexact Hlev
    isplitl [HF]; · iexact HF
    iexact HO
  iintro ⟨HR, ⟨%f1, HS1⟩, Hz, HO⟩
  sl_exec
  rw [wp_ret]
  iapply fupd_intro
  iapply HQ
  isplitr
  · ipureintro
    dsimp only [part7_spec.sl.v203, part7_spec.sl.HS1_1]
    simp only [k0_pay17, k0_pay18, k0_pay19, k0_pay20, View.readCov_cons_toLoadRect, comm_load01, w_load0, shapeCast_self, shapeCast_shapeCast]
    rfl
  isplitl [HO]; · iexact HO
  isplitl [H12]
  · iapply (fly m c 12 (sh 3 c) 0 0 (off2_sh c 0) (k0_off2_inb c 0) rfl inb_S2x512x2048_S1x512x2048_0_0_0 fo f0 h0.1 h0.2)
    iexact H12
  isplitl [HR]; · iexact HR
  isplitl [Hz]; · iexact Hz
  isplitl [HC]; · iexact HC
  isplitl [HW]; · iexact HW
  iexists _
  isplitr [HS1]
  rotate_left
  · iexact HS1
  · ipureintro
    dsimp only [part7_spec.sl.HS1_1]
    simp only [k0_pay18, k0_pay19, comm_load01, w_load0, shapeCast_self]
    exact half_same 1 0 rfl rfl _ _ _ (tile m (sh 3 c) c 1 0) _

/-- The fourth tile and the copy of the second half of the left neighbour's block. -/
theorem part8_spec (c : Dev nD) (v2 : BitVec 32) (v182 : F .f32) (Q : (Σ' (v224 : F .f32) (v231 : BitVec 32), FVec F S512x4096 .bf16) → sProp 𝕄) :
    iprop(owing c (payList.drop 7) ∗ semVal ((c : Thread nD τ), .dma (13 : DmaSem sig)) 0
      ∗ half0 c rS1 1 (tile m (sh 3 c) c 1 0) ∗ (∃ f, oRow c (sh 3 c) 1 f) ∗ cPc c rRlo fullShare (commF m c) ∗ wPc m c)
      ⊢ iprop((∀ r, (⌜r.1 = Scalar.maximumf (Scalar.maximumf v182 (tileMax (tile m (sh 3 c) c 1 0))) (tileMax (tile m (sh 3 c) c 1 1)) ∧ r.2.2 = xRows (xstg m (sh 1 c)) 0⌝
            ∗ owing c (payList.drop 7) ∗ flying m c 13 (sh 3 c) 1 rS1 ∗ cPc c rRlo fullShare (commF m c) ∗ wPc m c) -∗ Q r)
        -∗ wp frame (wpE (defs₀ (F := F)) 𝒱₀ (c : Thread nD τ) none) Set.univ
          (k0_part8 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v2 v182 (xRows (xstg m (sh 3 c)) 1) (multiReduction .maximumf [1, 2] S1
              (shapeCast S1x512x1024 (absf (tile m (sh 3 c) c 1 0)) shapeCasts_S512x1024_S1x512x1024) 0xFF800000#32 reduces_S1x512x1024_S1 (.inl rfl) rfl)) Q) := by
  rw [k0_part8_eq_skeleton]
  unfold k0_part8_skel
  simp only [Prog.lift, Prog.bind_op, Prog.bind_ret, Prog.pure_eq_ret]
  iintro ⟨⟨%W, HO⟩, H13, ⟨%f1, %h1, HS1⟩, ⟨%fo, HB⟩, HC, HW⟩ HQ
  have eB : (oPc c (Rect.unit (s := S4096x2048) (k0_off2 c 512#32) S512x2048.size (k0_off2_inb c 1)) fo : sProp 𝕄) = oRow c (sh 3 c) 1 fo :=
    oPc_eq c (sh 3 c) 1 (off2_sh c 1) (k0_off2_inb c 1) fo
  icases (Entails.of_eq eB.symm) $$ HB with HB
  sl_exec
  rw [wp_ret]
  iapply fupd_intro
  iapply HQ
  isplitr
  · ipureintro
    dsimp only [part8_spec.sl.v217, part8_spec.sl.HS1_1]
    simp only [k0_pay21, k0_pay22, k0_pay23, View.readCov_cons_toLoadRect, comm_load10, w_load1, shapeCast_self, shapeCast_shapeCast]
    exact ⟨rfl, True.intro⟩
  isplitl [HO]; · iexists _; iexact HO
  isplitl [H13]
  · iapply (fly m c 13 (sh 3 c) 1 1 (off2_sh c 1) (k0_off2_inb c 1) rfl inb_S2x512x2048_S1x512x2048_1_0_0 fo (sM.view.writes (Elt F) f1 (part8_spec.sl.HS1_1 m c))
        (half_other 1 0 (.inr (.inr ⟨rfl, rfl⟩)) _ _ [] _ _ h1) (by
          dsimp only [part8_spec.sl.HS1_1]
          simp only [k0_pay21, w_load1, shapeCast_self]
          exact half_same 1 1 rfl rfl _ _ [] (tile m (sh 3 c) c 1 1) shapeCasts_S512x1024_S1x512x1024))
    iexact H13
  isplitl [HC]; · iexact HC
  iexact HW

end Cert.KProof
-- ==== Proof.BodyC.lean ====
/-
The tiles of the right neighbour's rows.
-/
module

public import proofs.«01_k».proof.Proof.Loads

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

variable (K : Dev nD × Fin 15 → ℕ)

set_option sl_exec.dmaWindow true
set_option sl_exec.squeezeSlice true

/-- The first two tiles of the right neighbour's rows. -/
theorem part9_spec (c : Dev nD) (v224 : F .f32) (Q : F .f32 → sProp 𝕄) :
    iprop(levAts L lv ∗ owing c (payList.drop 7) ∗ flying m c 12 (sh 3 c) 0 rS0 ∗ wPc m c)
      ⊢ iprop((∀ r, (⌜r = Scalar.maximumf (Scalar.maximumf v224 (tileMax (tile m (sh 1 c) c 0 0))) (tileMax (tile m (sh 1 c) c 0 1))⌝
            ∗ owing c (payList.drop 7) ∗ oRow c (sh 3 c) 0 (yF m c) ∗ semVal ((c : Thread nD τ), .dma (12 : DmaSem sig)) 0
            ∗ wPc m c ∗ halves c rS0 0 (tile m (sh 1 c) c 0 0) (tile m (sh 1 c) c 0 1)) -∗ Q r)
        -∗ wp frame (wpE (defs₀ (F := F)) 𝒱₀ (c : Thread nD τ) none) Set.univ
          (k0_part9 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v224 (xRows (xstg m (sh 1 c)) 0)) Q) := by
  rw [k0_part9_eq_skeleton]
  unfold k0_part9_skel
  simp only [Prog.lift, Prog.bind_op, Prog.bind_ret, Prog.pure_eq_ret]
  iintro ⟨#Hlev, HO, HF, HW⟩ HQ
  iapply (wp_wait_tile m c (sh 3 c) 0 rS0 (n := 12) rfl rfl (payList.drop 7) (by decide)) $$ [HF HO]
  · isplitr; · iexact Hlev
    isplitl [HF]; · iexact HF
    iexact HO
  iintro ⟨HR, ⟨%f0, HS0⟩, Hz, HO⟩
  sl_exec
  rw [wp_ret]
  iapply fupd_intro
  iapply HQ
  isplitr
  · ipureintro
    dsimp only [part9_spec.sl.v247, part9_spec.sl.v261, part9_spec.sl.HS0_1, part9_spec.sl.HS0_2]
    simp only [k0_pay24, k0_pay25, k0_pay26, View.readCov_cons_toLoadRect, w_load0, w_load1, shapeCast_self, shapeCast_shapeCast]
    rfl
  isplitl [HO]; · iexact HO
  isplitl [HR]; · iexact HR
  isplitl [Hz]; · iexact Hz
  isplitl [HW]; · iexact HW
  iexists _
  isplitr [HS0]
  rotate_left
  · iexact HS0
  · ipureintro
    dsimp only [part9_spec.sl.HS0_1, part9_spec.sl.HS0_2]
    simp only [k0_pay24, k0_pay25, w_load0, w_load1, shapeCast_self]
    exact ⟨half_other 0 0 (.inr (.inr ⟨rfl, rfl⟩)) _ _ _ _ _ (half_same 0 0 rfl rfl _ _ _ (tile m (sh 1 c) c 0 0) _), half_same 0 1 rfl rfl _ _ _ (tile m (sh 1 c) c 0 1) _⟩

/-- The copy of the first half of the right neighbour's block, its third tile and the fourth, not yet stored. -/
theorem part10_spec (c : Dev nD) (v231 : BitVec 32) (v268 : F .f32) (Q : (Σ' (v296 : F .f32), FVec F S512x1024 .f32) → sProp 𝕄) :
    iprop(levAts L lv ∗ owing c (payList.drop 7) ∗ semVal ((c : Thread nD τ), .dma (12 : DmaSem sig)) 0
      ∗ halves c rS0 0 (tile m (sh 1 c) c 0 0) (tile m (sh 1 c) c 0 1) ∗ (∃ f, oRow c (sh 1 c) 0 f)
      ∗ flying m c 13 (sh 3 c) 1 rS1 ∗ cPc c rRhi qA (commF m c) ∗ wPc m c)
      ⊢ iprop((∀ r, (⌜r = ⟨Scalar.maximumf v268 (tileMax (tile m (sh 1 c) c 1 0)), tile m (sh 1 c) c 1 1⟩⌝
            ∗ owing c (payList.drop 7) ∗ flying m c 12 (sh 1 c) 0 rS0 ∗ oRow c (sh 3 c) 1 (yF m c) ∗ semVal ((c : Thread nD τ), .dma (13 : DmaSem sig)) 0
            ∗ cPc c rRhi qA (commF m c) ∗ wPc m c ∗ half0 c rS1 1 (tile m (sh 1 c) c 1 0)) -∗ Q r)
        -∗ wp frame (wpE (defs₀ (F := F)) 𝒱₀ (c : Thread nD τ) none) Set.univ
          (k0_part10 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v231 v268) Q) := by
  rw [k0_part10_eq_skeleton]
  unfold k0_part10_skel
  simp only [Prog.lift, Prog.bind_op, Prog.bind_ret, Prog.pure_eq_ret]
  iintro ⟨#Hlev, HO, H12, ⟨%f0, %h0, HS0⟩, ⟨%fo, HB⟩, HF, HC, HW⟩ HQ
  have eB : (oPc c (Rect.unit (s := S4096x2048) (k0_off3 c 1#32 0#32) S512x2048.size (k0_off3_inb c 0 0)) fo : sProp 𝕄) = oRow c (sh 1 c) 0 fo :=
    oPc_eq c (sh 1 c) 0 (off3_sh1 c 0) (k0_off3_inb c 0 0) fo
  icases (Entails.of_eq eB.symm) $$ HB with HB
  sl_exec
  iapply (wp_wait_tile m c (sh 3 c) 1 rS1 (n := 13) rfl rfl (payList.drop 7) (by decide)) $$ [HF HO]
  · isplitr; · iexact Hlev
    isplitl [HF]; · iexact HF
    iexact HO
  iintro ⟨HR, ⟨%f1, HS1⟩, Hz, HO⟩
  sl_exec
  rw [wp_ret]
  iapply fupd_intro
  iapply HQ
  isplitr
  · ipureintro
    dsimp only [part10_spec.sl.v289, part10_spec.sl.HS1_1]
    simp only [k0_pay27, k0_pay28, k0_pay29, k0_pay30, View.readCov_cons_toLoadRect, comm_load11, w_load0, w_load1, shapeCast_self, shapeCast_shapeCast]
    rfl
  isplitl [HO]; · iexact HO
  isplitl [H12]
  · iapply (fly m c 12 (sh 1 c) 0 0 (off3_sh1 c 0) (k0_off3_inb c 0 0) rfl inb_S2x512x2048_S1x512x2048_0_0_0 fo f0 h0.1 h0.2)
    iexact H12
  isplitl [HR]; · iexact HR
  isplitl [Hz]; · iexact Hz
  isplitl [HC]; · iexact HC
  isplitl [HW]; · iexact HW
  iexists _
  isplitr [HS1]
  rotate_left
  · iexact HS1
  · ipureintro
    dsimp only [part10_spec.sl.HS1_1]
    simp only [k0_pay27, k0_pay28, comm_load11, w_load0, shapeCast_self]
    exact half_same 1 0 rfl rfl _ _ _ (tile m (sh 1 c) c 1 0) _

/-- The fourth tile stored and copied out; the first half of the opposite device's rows arrives. -/
theorem part11_spec (c : Dev nD) (v2 v7 : BitVec 32) (v296 : F .f32) (Q : (Σ' (v310 : F .f32) (v317 : BitVec 32), FVec F S512x4096 .bf16) → sProp 𝕄) :
    iprop(records m K ∗ levAts L lv ∗ owing c (payList.drop 7) ∗ semVal ((c : Thread nD τ), .dma (13 : DmaSem sig)) 0
      ∗ cred (tallyAt (kcell (c, 3)) () (tot 3)) ∗ atPos ER (kcell (c, 3)) 0 ∅ 0
      ∗ half0 c rS1 1 (tile m (sh 1 c) c 1 0) ∗ (∃ f, oRow c (sh 1 c) 1 f))
      ⊢ iprop((∀ r, (⌜r.1 = Scalar.maximumf v296 (tileMax (tile m (sh 1 c) c 1 1)) ∧ r.2.2 = xRows (xstg m (sh 2 c)) 0⌝
            ∗ owing c (payList.drop 7) ∗ flying m c 13 (sh 1 c) 1 rS1 ∗ semVal (kcell (c, 3)) 0 ∗ cPc c rOlo fullShare (commF m c)) -∗ Q r)
        -∗ wp frame (wpE (defs₀ (F := F)) 𝒱₀ (c : Thread nD τ) none) Set.univ
          (k0_part11 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v2 v7 v296 (tile m (sh 1 c) c 1 1)) Q) := by
  rw [k0_part11_eq_skeleton]
  unfold k0_part11_skel
  simp only [Prog.lift, Prog.bind_op, Prog.bind_ret, Prog.pure_eq_ret]
  iintro ⟨#HR, #Hlev, ⟨%W, HO⟩, H13, Hc, Hat, ⟨%f1, %h1, HS1⟩, ⟨%fo, HB⟩⟩ HQ
  have eB : (oPc c (Rect.unit (s := S4096x2048) (k0_off3 c 1#32 512#32) S512x2048.size (k0_off3_inb c 0 1)) fo : sProp 𝕄) = oRow c (sh 1 c) 1 fo :=
    oPc_eq c (sh 1 c) 1 (off3_sh1 c 1) (k0_off3_inb c 0 1) fo
  icases (Entails.of_eq eB.symm) $$ HB with HB
  sl_exec
  iapply (wp_wait_block m K c 3 (by decide) rfl (by decide) (payList.drop 7) (by decide)) $$ [Hc HO Hat]
  · isplitr; · iexact HR
    isplitr; · iexact Hlev
    isplitl [Hc]; · iexact Hc
    isplitl [HO]; · iexists _; iexact HO
    iexact Hat
  iintro ⟨Hp, Hz, HO⟩
  icases (Entails.of_eq (payF_3 m c)) $$ Hp with HC
  sl_exec
  rw [wp_ret]
  iapply fupd_intro
  iapply HQ
  isplitr
  · ipureintro
    dsimp only [part11_spec.sl.v303, part11_spec.sl.HS1_1]
    simp only [k0_pay31, k0_pay32, k0_pay33, View.readCov_cons_toLoadRect, comm_load20, shapeCast_self, shapeCast_shapeCast]
    exact ⟨rfl, True.intro⟩
  isplitl [HO]; · iexact HO
  isplitl [H13]
  · iapply (fly m c 13 (sh 1 c) 1 1 (off3_sh1 c 1) (k0_off3_inb c 0 1) rfl inb_S2x512x2048_S1x512x2048_1_0_0 fo (sM.view.writes (Elt F) f1 (part11_spec.sl.HS1_1 m c))
        (half_other 1 0 (.inr (.inr ⟨rfl, rfl⟩)) _ _ [] _ _ h1) (half_same 1 1 rfl rfl _ _ [] (tile m (sh 1 c) c 1 1) shapeCasts_S512x1024_S1x512x1024))
    iexact H13
  isplitl [Hz]; · iexact Hz
  iexact HC

end Cert.KProof
-- ==== Proof.BodyD.lean ====
/-
The tiles of the opposite device's rows.
-/
module

public import proofs.«01_k».proof.Proof.Loads

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

variable (K : Dev nD × Fin 15 → ℕ)

set_option sl_exec.dmaWindow true
set_option sl_exec.squeezeSlice true

/-- The first two tiles of the opposite device's rows. -/
theorem part12_spec (c : Dev nD) (v310 : F .f32) (Q : F .f32 → sProp 𝕄) :
    iprop(levAts L lv ∗ owing c (payList.drop 7) ∗ flying m c 12 (sh 1 c) 0 rS0 ∗ wPc m c)
      ⊢ iprop((∀ r, (⌜r = Scalar.maximumf (Scalar.maximumf v310 (tileMax (tile m (sh 2 c) c 0 0))) (tileMax (tile m (sh 2 c) c 0 1))⌝
            ∗ owing c (payList.drop 7) ∗ oRow c (sh 1 c) 0 (yF m c) ∗ semVal ((c : Thread nD τ), .dma (12 : DmaSem sig)) 0
            ∗ wPc m c ∗ halves c rS0 0 (tile m (sh 2 c) c 0 0) (tile m (sh 2 c) c 0 1)) -∗ Q r)
        -∗ wp frame (wpE (defs₀ (F := F)) 𝒱₀ (c : Thread nD τ) none) Set.univ
          (k0_part12 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v310 (xRows (xstg m (sh 2 c)) 0)) Q) := by
  rw [k0_part12_eq_skeleton]
  unfold k0_part12_skel
  simp only [Prog.lift, Prog.bind_op, Prog.bind_ret, Prog.pure_eq_ret]
  iintro ⟨#Hlev, HO, HF, HW⟩ HQ
  iapply (wp_wait_tile m c (sh 1 c) 0 rS0 (n := 12) rfl rfl (payList.drop 7) (by decide)) $$ [HF HO]
  · isplitr; · iexact Hlev
    isplitl [HF]; · iexact HF
    iexact HO
  iintro ⟨HR, ⟨%f0, HS0⟩, Hz, HO⟩
  sl_exec
  rw [wp_ret]
  iapply fupd_intro
  iapply HQ
  isplitr
  · ipureintro
    dsimp only [part12_spec.sl.v341, part12_spec.sl.v355, part12_spec.sl.HS0_1, part12_spec.sl.HS0_2]
    simp only [k0_pay34, k0_pay35, k0_pay36, View.readCov_cons_toLoadRect, w_load0, w_load1, shapeCast_self, shapeCast_shapeCast]
    rfl
  isplitl [HO]; · iexact HO
  isplitl [HR]; · iexact HR
  isplitl [Hz]; · iexact Hz
  isplitl [HW]; · iexact HW
  iexists _
  isplitr [HS0]
  rotate_left
  · iexact HS0
  · ipureintro
    dsimp only [part12_spec.sl.HS0_1, part12_spec.sl.HS0_2]
    simp only [k0_pay34, k0_pay35, w_load0, w_load1, shapeCast_self]
    exact ⟨half_other 0 0 (.inr (.inr ⟨rfl, rfl⟩)) _ _ _ _ _ (half_same 0 0 rfl rfl _ _ _ (tile m (sh 2 c) c 0 0) _), half_same 0 1 rfl rfl _ _ _ (tile m (sh 2 c) c 0 1) _⟩

/-- The copy of the first half of the opposite device's block; the second half of its rows arrives, and the third tile is computed. -/
theorem part13_spec (c : Dev nD) (v5 v317 : BitVec 32) (Q : (Σ' (v379 : FVec F S512x4096 .bf16), FVec F S1x512x1024 .f32) → sProp 𝕄) :
    iprop(records m K ∗ levAts L lv ∗ owing c (payList.drop 7) ∗ semVal ((c : Thread nD τ), .dma (12 : DmaSem sig)) 0
      ∗ cred (tallyAt (kcell (c, 4)) () (tot 4)) ∗ atPos ER (kcell (c, 4)) 0 ∅ 0
      ∗ halves c rS0 0 (tile m (sh 2 c) c 0 0) (tile m (sh 2 c) c 0 1) ∗ (∃ f, oRow c (sh 2 c) 0 f)
      ∗ flying m c 13 (sh 1 c) 1 rS1 ∗ wPc m c)
      ⊢ iprop((∀ r, (⌜r = ⟨xRows (xstg m (sh 2 c)) 1, shapeCast S1x512x1024 (tile m (sh 2 c) c 1 0) shapeCasts_S512x1024_S1x512x1024⟩⌝
            ∗ owing c (payList.drop 7) ∗ flying m c 12 (sh 2 c) 0 rS0 ∗ oRow c (sh 1 c) 1 (yF m c) ∗ semVal ((c : Thread nD τ), .dma (13 : DmaSem sig)) 0
            ∗ semVal (kcell (c, 4)) 0 ∗ cPc c rOhi fullShare (commF m c) ∗ wPc m c ∗ (∃ f, sPc c rS1 f)) -∗ Q r)
        -∗ wp frame (wpE (defs₀ (F := F)) 𝒱₀ (c : Thread nD τ) none) Set.univ
          (k0_part13 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v5 v317) Q) := by
  rw [k0_part13_eq_skeleton]
  unfold k0_part13_skel
  simp only [Prog.lift, Prog.bind_op, Prog.bind_ret, Prog.pure_eq_ret]
  iintro ⟨#HR, #Hlev, ⟨%W, HO⟩, H12, Hc, Hat, ⟨%f0, %h0, HS0⟩, ⟨%fo, HB⟩, HF, HW⟩ HQ
  have eB : (oPc c (Rect.unit (s := S4096x2048) (k0_off3 c 2#32 0#32) S512x2048.size (k0_off3_inb c 1 0)) fo : sProp 𝕄) = oRow c (sh 2 c) 0 fo :=
    oPc_eq c (sh 2 c) 0 (off3_sh2 c 0) (k0_off3_inb c 1 0) fo
  icases (Entails.of_eq eB.symm) $$ HB with HB
  sl_exec
  iapply (wp_wait_block m K c 4 (by decide) rfl (by decide) (payList.drop 7) (by decide)) $$ [Hc HO Hat]
  · isplitr; · iexact HR
    isplitr; · iexact Hlev
    isplitl [Hc]; · iexact Hc
    isplitl [HO]; · iexists _; iexact HO
    iexact Hat
  iintro ⟨Hp, Hz4, HO⟩
  icases (Entails.of_eq (payF_4 m c)) $$ Hp with HC
  sl_exec
  iapply (wp_wait_tile m c (sh 1 c) 1 rS1 (n := 13) rfl rfl (payList.drop 7) (by decide)) $$ [HF HO]
  · isplitr; · iexact Hlev
    isplitl [HF]; · iexact HF
    iexact HO
  iintro ⟨HD, ⟨%f1, HS1⟩, Hz, HO⟩
  sl_exec
  rw [wp_ret]
  iapply fupd_intro
  iapply HQ
  isplitr
  · ipureintro
    simp only [k0_pay37, k0_pay38, comm_load21, w_load0, shapeCast_self, shapeCast_shapeCast]
    rfl
  isplitl [HO]; · iexact HO
  isplitl [H12]
  · iapply (fly m c 12 (sh 2 c) 0 0 (off3_sh2 c 0) (k0_off3_inb c 1 0) rfl inb_S2x512x2048_S1x512x2048_0_0_0 fo f0 h0.1 h0.2)
    iexact H12
  isplitl [HD]; · iexact HD
  isplitl [Hz]; · iexact Hz
  isplitl [Hz4]; · iexact Hz4
  isplitl [HC]; · iexact HC
  isplitl [HW]; · iexact HW
  iexists _; iexact HS1

/-- The last two tiles and their copy. -/
theorem part14_spec (c : Dev nD) (v362 : F .f32) (Q : F .f32 → sProp 𝕄) :
    iprop(levAts L lv ∗ owing c (payList.drop 7) ∗ semVal ((c : Thread nD τ), .dma (13 : DmaSem sig)) 0
      ∗ (∃ f, sPc c rS1 f) ∗ (∃ f, oRow c (sh 2 c) 1 f) ∗ flying m c 12 (sh 2 c) 0 rS0 ∗ wPc m c)
      ⊢ iprop((∀ r, (⌜r = Scalar.maximumf (Scalar.maximumf v362 (tileMax (tile m (sh 2 c) c 1 0))) (tileMax (tile m (sh 2 c) c 1 1))⌝
            ∗ owing c (payList.drop 7) ∗ flying m c 13 (sh 2 c) 1 rS1 ∗ oRow c (sh 2 c) 0 (yF m c) ∗ semVal ((c : Thread nD τ), .dma (12 : DmaSem sig)) 0
            ∗ (∃ f, sPc c rS0 f) ∗ wPc m c) -∗ Q r)
        -∗ wp frame (wpE (defs₀ (F := F)) 𝒱₀ (c : Thread nD τ) none) Set.univ
          (k0_part14 xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10 c v362 (xRows (xstg m (sh 2 c)) 1) (shapeCast S1x512x1024 (tile m (sh 2 c) c 1 0) shapeCasts_S512x1024_S1x512x1024)) Q) := by
  rw [k0_part14_eq_skeleton]
  unfold k0_part14_skel
  simp only [Prog.lift, Prog.bind_op, Prog.bind_ret, Prog.pure_eq_ret]
  iintro ⟨#Hlev, ⟨%W, HO⟩, H13, ⟨%f1, HS1⟩, ⟨%fo, HB⟩, HF, HW⟩ HQ
  have eB : (oPc c (Rect.unit (s := S4096x2048) (k0_off3 c 2#32 512#32) S512x2048.size (k0_off3_inb c 1 1)) fo : sProp 𝕄) = oRow c (sh 2 c) 1 fo :=
    oPc_eq c (sh 2 c) 1 (off3_sh2 c 1) (k0_off3_inb c 1 1) fo
  icases (Entails.of_eq eB.symm) $$ HB with HB
  sl_exec
  iapply (wp_wait_tile m c (sh 2 c) 0 rS0 (n := 12) rfl rfl (payList.drop 7) (by decide)) $$ [HF HO]
  · isplitr; · iexact Hlev
    isplitl [HF]; · iexact HF
    iexists _; iexact HO
  iintro ⟨HD, ⟨%f0, HS0⟩, Hz, HO⟩
  rw [wp_ret]
  iapply fupd_intro
  iapply HQ
  isplitr
  · ipureintro
    dsimp only [part14_spec.sl.v391, part14_spec.sl.v405, part14_spec.sl.HS1_1, part14_spec.sl.HS1_2]
    simp only [k0_pay39, k0_pay40, View.readCov_cons_toLoadRect, w_load1, shapeCast_self, shapeCast_shapeCast]
    rfl
  isplitl [HO]; · iexact HO
  isplitl [H13]
  · iapply (fly m c 13 (sh 2 c) 1 1 (off3_sh2 c 1) (k0_off3_inb c 1 1) rfl inb_S2x512x2048_S1x512x2048_1_0_0 fo (sM.view.writes (Elt F) f1 (part14_spec.sl.HS1_2 m c))
        (by
          dsimp only [part14_spec.sl.HS1_1, part14_spec.sl.HS1_2]
          exact half_other 1 0 (.inr (.inr ⟨rfl, rfl⟩)) _ _ _ _ _ (half_same 1 0 rfl rfl _ _ [] (tile m (sh 2 c) c 1 0) shapeCasts_S512x1024_S1x512x1024))
        (by
          dsimp only [part14_spec.sl.HS1_1, part14_spec.sl.HS1_2]
          simp only [k0_pay39, w_load1, shapeCast_self]
          exact half_same 1 1 rfl rfl _ _ _ (tile m (sh 2 c) c 1 1) shapeCasts_S512x1024_S1x512x1024))
    iexact H13
  isplitl [HD]; · iexact HD
  isplitl [Hz]; · iexact Hz
  isplitl [HS0]; · iexists _; iexact HS0
  iexact HW

end Cert.KProof
-- ==== Proof.Product.lean ====
/-
The first stretch put together from its parts.
-/
module

public import proofs.«01_k».proof.Proof.Body1
public import proofs.«01_k».proof.Proof.BodyA
public import proofs.«01_k».proof.Proof.Forward
public import proofs.«01_k».proof.Proof.BodyB
public import proofs.«01_k».proof.Proof.BodyC
public import proofs.«01_k».proof.Proof.BodyD

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

variable (K : Dev nD × Fin 15 → ℕ)

/-- One program after another. -/
theorem wp_seq {α β : Type} (c : Dev nD) (p : Prog (TpuEff nD τ sig (Elt F) Λ₀ .tc) α) (k : α → Prog (TpuEff nD τ sig (Elt F) Λ₀ .tc) β) (Q : β → sProp 𝕄) :
    (wp frame (wpE (defs₀ (F := F)) 𝒱₀ (c : Thread nD τ) none) Set.univ p (fun a => wp frame (wpE (defs₀ (F := F)) 𝒱₀ (c : Thread nD τ) none) Set.univ (k a) Q) : sProp 𝕄) ⊢ wp frame (wpE (defs₀ (F := F)) 𝒱₀ (c : Thread nD τ) none) Set.univ (p >>= k) Q := Entails.of_eq (wp_bind _ _ _ _ _ _).symm

theorem mem_sM (R : Rect S2x512x2048) (i : S2x512x2048.Idx) : i ∈ sM.view.setOn R.set ↔ i ∈ R.set :=
  View.mem_setOn (v := sM.view) (x := i)

/-- An element lies in a slot of the staging buffer. -/
theorem mem_slot {o : ℕ} (inb : ∀ a, (![o, 0, 0] : Fin 3 → ℕ) a + S1x512x2048.size a ≤ S2x512x2048.size a) (i : S2x512x2048.Idx) :
    i ∈ (Rect.unit (s := S2x512x2048) ![o, 0, 0] S1x512x2048.size inb).set ↔ (i 0).val = o := by
  rw [Rect.mem_set_unit]
  have h1 : (i 1).val < 512 := (i 1).isLt
  have h2 : (i 2).val < 2048 := (i 2).isLt
  constructor
  · intro h
    have h0 := h 0
    simp at h0
    omega
  · intro h0 a
    fin_cases a <;> simp <;> omega

def sK : Fin 2 → Finset S2x512x2048.Idx := ![sM.view.setOn rS0.set, sM.view.setOn rS1.set]

theorem sK_mem (t : Fin 2) (i : S2x512x2048.Idx) : i ∈ sK t ↔ (i 0).val = t.val := by
  fin_cases t
  · exact (mem_sM rS0 i).trans (mem_slot _ i)
  · exact (mem_sM rS1 i).trans (mem_slot _ i)

theorem sK_disj (t t' : Fin 2) (h : t ≠ t') : Disjoint (sK t) (sK t') := by
  rw [Finset.disjoint_left]
  intro i hi hi'
  exact h (Fin.ext (((sK_mem t i).1 hi).symm.trans ((sK_mem t' i).1 hi')))

theorem sK_cover (i : S2x512x2048.Idx) : ∃ t, i ∈ sK t := ⟨i 0, (sK_mem _ i).2 rfl⟩

/-- A buffer held whole is its two pieces. -/
theorem two_eq {ℓ : Loc nD τ sig} (K : Fin 2 → Finset (Idx ℓ)) (hd : ∀ t t', t ≠ t' → Disjoint (K t) (K t'))
    (hu : ∀ i, ∃ t, i ∈ K t) (f : Buf (Elt F) ℓ) :
    (ℓ ↦{fullShare} f : sProp 𝕄) = iprop((ℓ ↦[K 0]{fullShare} f) ∗ (ℓ ↦[K 1]{fullShare} f)) := by
  have e : (Finset.univ : Finset (Fin 2)).biUnion K = Finset.univ :=
    Finset.eq_univ_iff_forall.mpr fun i => Finset.mem_biUnion.mpr ⟨(hu i).choose, Finset.mem_univ _, (hu i).choose_spec⟩
  have h : (ℓ ↦[(Finset.univ : Finset (Fin 2)).biUnion K]{fullShare} f : sProp 𝕄) = bigSep Finset.univ fun t => ℓ ↦[K t]{fullShare} f :=
    pointsTo_biUnion Finset.univ K (fun t _ t' _ => hd t t')
  rw [e] at h
  refine h.trans ?_
  rw [bigSep_eq_bigSepL_of_eq [0, 1] (by decide) (by decide), bigSepL_cons_cons, bigSepL_singleton]
  rfl

/-- Two pieces with any contents make a whole buffer with some contents. -/
theorem two_join {ℓ : Loc nD τ sig} (K : Fin 2 → Finset (Idx ℓ)) (hd : ∀ t t', t ≠ t' → Disjoint (K t) (K t'))
    (hu : ∀ i, ∃ t, i ∈ K t) (f0 f1 : Buf (Elt F) ℓ) :
    (iprop((ℓ ↦[K 0]{fullShare} f0) ∗ (ℓ ↦[K 1]{fullShare} f1)) : sProp 𝕄) ⊢ iprop(∃ f, ℓ ↦{fullShare} f) := by
  have e : (Finset.univ : Finset (Fin 2)).biUnion K = Finset.univ :=
    Finset.eq_univ_iff_forall.mpr fun i => Finset.mem_biUnion.mpr ⟨(hu i).choose, Finset.mem_univ _, (hu i).choose_spec⟩
  have h : bigSep Finset.univ (fun t => ℓ ↦[K t]{fullShare} (![f0, f1] : Fin 2 → Buf (Elt F) ℓ) t)
      ⊢ (iprop(∃ g, ⌜∀ t ∈ (Finset.univ : Finset (Fin 2)), ∀ i ∈ K t, g i = (![f0, f1] : Fin 2 → Buf (Elt F) ℓ) t i⌝
          ∗ ℓ ↦[(Finset.univ : Finset (Fin 2)).biUnion K]{fullShare} g) : sProp 𝕄) :=
    pointsTo_biUnion_join Finset.univ K _ f0 (fun t _ t' _ => hd t t')
  rw [e, bigSep_eq_bigSepL_of_eq [0, 1] (by decide) (by decide), bigSepL_cons_cons, bigSepL_singleton] at h
  refine h.trans ?_
  iintro ⟨%g, -, H⟩
  iexists g
  iexact H

/-- The staging buffer as its two slots. -/
theorem s_split (c : Dev nD) (f : FVec F S2x512x2048 .f32) :
    (sM.view.loc (c : Thread nD τ) ↦{fullShare} f : sProp 𝕄) = iprop(sPc c rS0 f ∗ sPc c rS1 f) :=
  two_eq (ℓ := sM.view.loc (c : Thread nD τ)) sK sK_disj sK_cover f

theorem s_join (c : Dev nD) (f0 f1 : FVec F S2x512x2048 .f32) :
    (iprop(sPc c rS0 f0 ∗ sPc c rS1 f1) : sProp 𝕄) ⊢ iprop(∃ f, sM.view.loc (c : Thread nD τ) ↦{fullShare} f) :=
  two_join (ℓ := sM.view.loc (c : Thread nD τ)) sK sK_disj sK_cover f0 f1

/-- The result as its eight blocks of 512 rows, the device's own first. -/
theorem o_rows (c : Dev nD) (f : FVec F S4096x2048 .f32) :
    (oM.view.loc (c : Thread nD τ) ↦{fullShare} f : sProp 𝕄)
      ⊣⊢ iprop((oRow c c 0 f ∗ oRow c c 1 f) ∗ (oRow c (sh 1 c) 0 f ∗ oRow c (sh 1 c) 1 f) ∗ (oRow c (sh 2 c) 0 f ∗ oRow c (sh 2 c) 1 f)
        ∗ (oRow c (sh 3 c) 0 f ∗ oRow c (sh 3 c) 1 f)) := by
  have e : (oBlk c (sh 0 c) f : sProp 𝕄) = oBlk c c f := by rw [sh_zero]
  rw [o_split, e]
  constructor
  · iintro ⟨H0, H1, H2, H3⟩
    isplitl [H0]; · iapply (oBlk_eq c c f).1; iexact H0
    isplitl [H1]; · iapply (oBlk_eq c (sh 1 c) f).1; iexact H1
    isplitl [H2]; · iapply (oBlk_eq c (sh 2 c) f).1; iexact H2
    iapply (oBlk_eq c (sh 3 c) f).1; iexact H3
  · iintro ⟨H0, H1, H2, H3⟩
    isplitl [H0]; · iapply (oBlk_eq c c f).2; iexact H0
    isplitl [H1]; · iapply (oBlk_eq c (sh 1 c) f).2; iexact H1
    isplitl [H2]; · iapply (oBlk_eq c (sh 2 c) f).2; iexact H2
    iapply (oBlk_eq c (sh 3 c) f).2; iexact H3

/-- The four counters of the local copies are at rest. -/
abbrev localSems (c : Dev nD) : sProp 𝕄 :=
  iprop(semVal ((c : Thread nD τ), .dma (10 : DmaSem sig)) 0 ∗ semVal ((c : Thread nD τ), .dma (11 : DmaSem sig)) 0
    ∗ semVal ((c : Thread nD τ), .dma (12 : DmaSem sig)) 0 ∗ semVal ((c : Thread nD τ), .dma (13 : DmaSem sig)) 0)

/-- What a device holds of the exchange of rows when the product is done: the row it owns and those it will write of the buffers of
    maxima, the rows that came, and the right to wait for its own sends. -/
def afterProduct (c : Dev nD) : sProp 𝕄 :=
  iprop((∃ f, aPc c c fullShare f) ∗ (∃ f, aPc (sh 1 c) c fullShare f) ∗ (∃ f, aPc (sh 2 c) c fullShare f) ∗ (∃ f, aPc (sh 3 c) c fullShare f)
    ∗ xPc m c qA ∗ cPc c rLlo qA (commF m c) ∗ cPc c rLlo qC (commF m c) ∗ cPc c rLhi fullShare (commF m c)
    ∗ cPc c rRlo fullShare (commF m c) ∗ cPc c rRhi qA (commF m c) ∗ cPc c rRhi qC (commF m c)
    ∗ cPc c rOlo fullShare (commF m c) ∗ cPc c rOhi fullShare (commF m c)
    ∗ cred (tallyAt (kcell (c, 8)) () (tot 8)) ∗ cred (tallyAt (kcell (c, 9)) () (tot 9))
    ∗ cred (tallyAt (kcell (c, 10)) () (tot 10)) ∗ cred (tallyAt (kcell (c, 11)) () (tot 11))
    ∗ semVal (kcell (c, 0)) 0 ∗ semVal (kcell (c, 1)) 0 ∗ semVal (kcell (c, 2)) 0 ∗ semVal (kcell (c, 3)) 0 ∗ semVal (kcell (c, 4)) 0)

set_option maxHeartbeats 1000000

/-- The product: the result's buffer holds it whole, and the largest magnitude is known. -/
theorem stretch1_spec (c : Dev nD) (W : Waits sig Unit) (Q : (Σ' (d0 : Dev nD) (v2 : BitVec 32), F .f32) → sProp 𝕄) :
    iprop(records m K ∗ levAts L lv ∗ owes (c : Thread nD τ) (owedL c payList) W
      ∗ cred (tallyAt (kcell (c, 0)) () (tot 0)) ∗ cred (tallyAt (kcell (c, 1)) () (tot 1)) ∗ cred (tallyAt (kcell (c, 2)) () (tot 2))
      ∗ cred (tallyAt (kcell (c, 3)) () (tot 3)) ∗ cred (tallyAt (kcell (c, 4)) () (tot 4))
      ∗ atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0
      ∗ dutyTok ER (kcell (sh 1 c, 0)) 0 1 ∗ dutyTok ER (kcell (sh 2 c, 0)) 0 2 ∗ dutyTok ER (kcell (sh 3 c, 0)) 0 3
      ∗ dutyTok ER (kcell (sh 1 c, 1)) 0 0 ∗ dutyTok ER (kcell (sh 3 c, 2)) 0 0 ∗ dutyTok ER (kcell (sh 1 c, 3)) 0 0 ∗ dutyTok ER (kcell (sh 3 c, 4)) 0 0
      ∗ dutyTok ER (kcell (c, 8)) 0 0 ∗ dutyTok ER (kcell (c, 9)) 0 0 ∗ dutyTok ER (kcell (c, 10)) 0 0 ∗ dutyTok ER (kcell (c, 11)) 0 0
      ∗ (∃ f, cM.view.loc (c : Thread nD τ) ↦{fullShare} f) ∗ (∃ f, aM.view.loc (c : Thread nD τ) ↦{fullShare} f)
      ∗ (∃ f, sM.view.loc (c : Thread nD τ) ↦{fullShare} f) ∗ (∃ f, oM.view.loc (c : Thread nD τ) ↦{fullShare} f)
      ∗ xPc m c fullShare ∗ wPc m c
      ∗ semVal ((c : Thread nD τ), .dma (12 : DmaSem sig)) 0 ∗ semVal ((c : Thread nD τ), .dma (13 : DmaSem sig)) 0)
      ⊢ iprop((∀ r, (⌜r.1 = c ∧ r.2.2 = mxF m c⌝ ∗ owing c (payList.drop 7) ∗ afterProduct m c ∗ wPc m c
            ∗ (oM.view.loc (c : Thread nD τ) ↦{fullShare} yF m c) ∗ (∃ f, sM.view.loc (c : Thread nD τ) ↦{fullShare} f)
            ∗ semVal ((c : Thread nD τ), .dma (12 : DmaSem sig)) 0 ∗ semVal ((c : Thread nD τ), .dma (13 : DmaSem sig)) 0) -∗ Q r)
        -∗ wp frame (wpE (defs₀ (F := F)) 𝒱₀ (c : Thread nD τ) none) Set.univ stretch1 Q) := by
  unfold stretch1
  iintro ⟨#HR, #Hlev, HO, C0, C1, C2, C3, C4, A0, A1, A2, A3, A4, T01, T02, T03, T11, T32, T13, T34, T8, T9, T10, T11s, HC, HA, ⟨%fs, HS⟩, ⟨%fo, HD⟩, HX, HW, H12, H13⟩ HQ
  icases (Entails.of_eq (s_split c fs)) $$ HS with ⟨HS0, HS1⟩
  icases (o_rows c fo).1 $$ HD with ⟨⟨O00, O01⟩, ⟨O10, O11⟩, ⟨O20, O21⟩, O30, O31⟩
  iapply (wp_seq c _ _ _)
  iapply (part1_spec m K c W _) $$ [HO C0 A0 T01 T02 T03 HC HA]
  · isplitr; · iexact HR
    isplitr; · iexact Hlev
    isplitl [C0]; · iexact C0
    isplitl [A0]; · iexact A0
    isplitl [HO]; · iexact HO
    isplitl [T01]; · iexact T01
    isplitl [T02]; · iexact T02
    isplitl [T03]; · iexact T03
    isplitl [HC]; · iexact HC
    iexact HA
  unfold afterBar
  iintro %r ⟨%e, HO, Z0, AM0, AM1, AM2, AM3, CL1, CO1, CR3, CO3⟩
  obtain ⟨d0, v2, v5, v7⟩ := r
  have e' : c = d0 := e.symm
  subst e'
  iapply (wp_seq c _ _ _)
  iapply (part2_spec m K c v2 v5 _) $$ [HO T8 T11 T9 T32 CL1 CR3 HX HW HS0]
  · isplitr; · iexact HR
    isplitl [HO]; · iexists _; iexact HO
    isplitl [T8]; · iexact T8
    isplitl [T11]; · iexact T11
    isplitl [T9]; · iexact T9
    isplitl [T32]; · iexact T32
    isplitl [CL1]; · iexact CL1
    isplitl [CR3]; · iexact CR3
    isplitl [HX]; · iexact HX
    isplitl [HW]; · iexact HW
    iexists _; iexact HS0
  iintro %r ⟨%e, HO, C8, C9, HX, HW, HS0⟩
  subst e
  iapply (wp_seq c _ _ _)
  iapply (part3_spec m c (payList.drop 5) v2 _ _) $$ [HO H12 HX HW HS0 HS1 O00]
  · isplitl [HO]; · iexact HO
    isplitl [H12]; · iexact H12
    isplitl [HX]; · iexact HX
    isplitl [HW]; · iexact HW
    isplitl [HS0]; · iexact HS0
    isplitl [HS1]; · iexists _; iexact HS1
    iexists _; iexact O00
  iintro %r ⟨%e, HO, F12, HX, HW, HS1⟩
  subst e
  iapply (wp_seq c _ _ _)
  iapply (part4_spec m K c v7 _ _) $$ [HO H13 C1 A1 HW HS1 O01]
  · isplitr; · iexact HR
    isplitr; · iexact Hlev
    isplitl [HO]; · iexact HO
    isplitl [H13]; · iexact H13
    isplitl [C1]; · iexact C1
    isplitl [A1]; · iexact A1
    isplitl [HW]; · iexact HW
    isplitl [HS1]; · iexact HS1
    iexists _; iexact O01
  iintro %r ⟨%e, HO, F13, HW, Z1, CL⟩
  subst e
  iapply (wp_seq c _ _ _)
  iapply (part5_spec m K c v2 v5 v7 _ _) $$ [HO T10 T13 T11s T34 C2 A2 CO1 CO3 CL]
  · isplitr; · iexact HR
    isplitr; · iexact Hlev
    isplitl [HO]; · iexact HO
    isplitl [T10]; · iexact T10
    isplitl [T13]; · iexact T13
    isplitl [T11s]; · iexact T11s
    isplitl [T34]; · iexact T34
    isplitl [C2]; · iexact C2
    isplitl [A2]; · iexact A2
    isplitl [CO1]; · iexact CO1
    isplitl [CO3]; · iexact CO3
    iexact CL
  iintro %r ⟨HO, C10, C11, Z2, LloA, LloC, Lhi, Rlo, RhiA, RhiC⟩
  obtain ⟨v145, v146, w⟩ := r
  iapply (wp_seq c _ _ _)
  iapply (part6_spec m c _ v146 w _) $$ [HO F12 LloA HW]
  · isplitr; · iexact Hlev
    isplitl [HO]; · iexact HO
    isplitl [F12]; · iexact F12
    isplitl [LloA]; · iexact LloA
    iexact HW
  iintro %r ⟨%e, HO, O00, H12, LloA, HW, HS0⟩
  subst e
  iapply (wp_seq c _ _ _)
  iapply (part7_spec m c v145 _ _) $$ [HO H12 HS0 O30 F13 Lhi HW]
  · isplitr; · iexact Hlev
    isplitl [HO]; · iexact HO
    isplitl [H12]; · iexact H12
    isplitl [HS0]; · iexact HS0
    isplitl [O30]; · iexists _; iexact O30
    isplitl [F13]; · iexact F13
    isplitl [Lhi]; · iexact Lhi
    iexact HW
  iintro %r ⟨%e, HO, F12, O01, H13, Lhi, HW, HS1⟩
  subst e
  iapply (wp_seq c _ _ _)
  iapply (part8_spec m c v2 _ _) $$ [HO H13 HS1 O31 Rlo HW]
  · isplitl [HO]; · iexact HO
    isplitl [H13]; · iexact H13
    isplitl [HS1]; · iexact HS1
    isplitl [O31]; · iexists _; iexact O31
    isplitl [Rlo]; · iexact Rlo
    iexact HW
  iintro %r ⟨%e, HO, F13, Rlo, HW⟩
  obtain ⟨v224, v231, v235⟩ := r; obtain ⟨e1, e2⟩ := e; dsimp only at e1 e2; subst e1; subst e2
  iapply (wp_seq c _ _ _)
  iapply (part9_spec m c _ _) $$ [HO F12 HW]
  · isplitr; · iexact Hlev
    isplitl [HO]; · iexact HO
    isplitl [F12]; · iexact F12
    iexact HW
  iintro %r ⟨%e, HO, O30, H12, HW, HS0⟩
  subst e
  iapply (wp_seq c _ _ _)
  iapply (part10_spec m c v231 _ _) $$ [HO H12 HS0 O10 F13 RhiA HW]
  · isplitr; · iexact Hlev
    isplitl [HO]; · iexact HO
    isplitl [H12]; · iexact H12
    isplitl [HS0]; · iexact HS0
    isplitl [O10]; · iexists _; iexact O10
    isplitl [F13]; · iexact F13
    isplitl [RhiA]; · iexact RhiA
    iexact HW
  iintro %r ⟨%e, HO, F12, O31, H13, RhiA, HW, HS1⟩
  subst e
  iapply (wp_seq c _ _ _)
  iapply (part11_spec m K c v2 v7 _ _) $$ [HO H13 C3 A3 HS1 O11]
  · isplitr; · iexact HR
    isplitr; · iexact Hlev
    isplitl [HO]; · iexact HO
    isplitl [H13]; · iexact H13
    isplitl [C3]; · iexact C3
    isplitl [A3]; · iexact A3
    isplitl [HS1]; · iexact HS1
    iexists _; iexact O11
  iintro %r ⟨%e, HO, F13, Z3, Olo⟩
  obtain ⟨v310, v317, v329⟩ := r; obtain ⟨e1, e2⟩ := e; dsimp only at e1 e2; subst e1; subst e2
  iapply (wp_seq c _ _ _)
  iapply (part12_spec m c _ _) $$ [HO F12 HW]
  · isplitr; · iexact Hlev
    isplitl [HO]; · iexact HO
    isplitl [F12]; · iexact F12
    iexact HW
  iintro %r ⟨%e, HO, O10, H12, HW, HS0⟩
  subst e
  iapply (wp_seq c _ _ _)
  iapply (part13_spec m K c v5 v317 _) $$ [HO H12 C4 A4 HS0 O20 F13 HW]
  · isplitr; · iexact HR
    isplitr; · iexact Hlev
    isplitl [HO]; · iexact HO
    isplitl [H12]; · iexact H12
    isplitl [C4]; · iexact C4
    isplitl [A4]; · iexact A4
    isplitl [HS0]; · iexact HS0
    isplitl [O20]; · iexists _; iexact O20
    isplitl [F13]; · iexact F13
    iexact HW
  iintro %r ⟨%e, HO, F12, O11, H13, Z4, Ohi, HW, HS1⟩
  subst e
  iapply (wp_seq c _ _ _)
  iapply (part14_spec m c _ _) $$ [HO H13 HS1 O21 F12 HW]
  · isplitr; · iexact Hlev
    isplitl [HO]; · iexact HO
    isplitl [H13]; · iexact H13
    isplitl [HS1]; · iexact HS1
    isplitl [O21]; · iexists _; iexact O21
    isplitl [F12]; · iexact F12
    iexact HW
  iintro %r ⟨%e, HO, F13, O20, H12, HS0, HW⟩
  subst e
  simp only [Prog.lift, Prog.bind_op, Prog.bind_ret, Prog.pure_eq_ret]
  iapply (wp_wait_tile m c (sh 2 c) 1 rS1 (n := 13) rfl rfl (payList.drop 7) (by decide)) $$ [F13 HO]
  · isplitr; · iexact Hlev
    isplitl [F13]; · iexact F13
    iexact HO
  iintro ⟨O21, HS1, H13, HO⟩
  rw [wp_ret]
  iapply fupd_intro
  iapply HQ
  isplitr; · ipureintro; exact ⟨rfl, rfl⟩
  isplitl [HO]; · iexact HO
  isplitl [AM0 AM1 AM2 AM3 HX LloA LloC Lhi Rlo RhiA RhiC Olo Ohi C8 C9 C10 C11 Z0 Z1 Z2 Z3 Z4]
  · unfold afterProduct
    isplitl [AM0]; · iexact AM0
    isplitl [AM1]; · iexact AM1
    isplitl [AM2]; · iexact AM2
    isplitl [AM3]; · iexact AM3
    isplitl [HX]; · iexact HX
    isplitl [LloA]; · iexact LloA
    isplitl [LloC]; · iexact LloC
    isplitl [Lhi]; · iexact Lhi
    isplitl [Rlo]; · iexact Rlo
    isplitl [RhiA]; · iexact RhiA
    isplitl [RhiC]; · iexact RhiC
    isplitl [Olo]; · iexact Olo
    isplitl [Ohi]; · iexact Ohi
    isplitl [C8]; · iexact C8
    isplitl [C9]; · iexact C9
    isplitl [C10]; · iexact C10
    isplitl [C11]; · iexact C11
    isplitl [Z0]; · iexact Z0
    isplitl [Z1]; · iexact Z1
    isplitl [Z2]; · iexact Z2
    isplitl [Z3]; · iexact Z3
    iexact Z4
  isplitl [HW]; · iexact HW
  isplitl [O00 O01 O10 O11 O20 O21 O30 O31]
  · iapply (o_rows c (yF m c)).2
    isplitl [O00 O01]
    · isplitl [O00]; · iexact O00
      iexact O01
    isplitl [O10 O11]
    · isplitl [O10]; · iexact O10
      iexact O11
    isplitl [O20 O21]
    · isplitl [O20]; · iexact O20
      iexact O21
    isplitl [O30]; · iexact O30
    iexact O31
  icases HS0 with ⟨%f0, HS0⟩
  icases HS1 with ⟨%f1, HS1⟩
  isplitl [HS0 HS1]
  · iapply (s_join c f0 f1)
    isplitl [HS0]; · iexact HS0
    iexact HS1
  isplitl [H12]; · iexact H12
  iexact H13

end Cert.KProof
-- ==== Proof.Rounds.lean ====
/-
The quantisation of 512 rows: fetched into a slot of the staging buffer, quantised there, copied back.
-/
module

public import proofs.«01_k».proof.Proof.Product

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

set_option sl_exec.dmaWindow true
set_option sl_exec.squeezeSlice true

/-! ## What a slot holds -/

/-- 256 rows of slot `s` of the staging buffer, from row `o` on, are rows of `g`, where the slot's first row is row `lo` of `g`. -/
def RowsAre (f : FVec F S2x512x2048 .f32) (s o lo : ℕ) (g : FVec F S4096x2048 .f32) : Prop :=
  ∀ (i : S2x512x2048.Idx) (j : S4096x2048.Idx), (i 0).val = s → o ≤ (i 1).val → (i 1).val < o + 256 → (j 0).val = lo + (i 1).val → (j 1).val = (i 2).val → f i = g j

/-- Slot `s` of the staging buffer holds 512 rows of `g`, from row `lo` on. -/
def SlotIs (f : FVec F S2x512x2048 .f32) (s lo : ℕ) (g : FVec F S4096x2048 .f32) : Prop := RowsAre f s 0 lo g ∧ RowsAre f s 256 lo g

theorem SlotIs.at {f : FVec F S2x512x2048 .f32} {s lo : ℕ} {g : FVec F S4096x2048 .f32} (h : SlotIs f s lo g) (i : S2x512x2048.Idx) (j : S4096x2048.Idx)
    (e0 : (i 0).val = s) (e1 : (j 0).val = lo + (i 1).val) (e2 : (j 1).val = (i 2).val) : f i = g j := by
  have hi : (i 1).val < 512 := (i 1).isLt
  by_cases h' : (i 1).val < 256
  · exact h.1 i j e0 (Nat.zero_le _) (by omega) e1 e2
  · exact h.2 i j e0 (by omega) (by omega) e1 e2

theorem SlotIs.of {f : FVec F S2x512x2048 .f32} {s lo : ℕ} {g : FVec F S4096x2048 .f32}
    (h : ∀ (i : S2x512x2048.Idx) (j : S4096x2048.Idx), (i 0).val = s → (j 0).val = lo + (i 1).val → (j 1).val = (i 2).val → f i = g j) : SlotIs f s lo g :=
  ⟨fun i j e0 _ _ e1 e2 => h i j e0 e1 e2, fun i j e0 _ _ e1 e2 => h i j e0 e1 e2⟩

/-- An element of 256 rows of a slot. -/
theorem rows_emb {s o : ℕ} (inb : ∀ a, (![s, o, 0] : Fin 3 → ℕ) a + S1x256x2048.size a ≤ S2x512x2048.size a) (i : S2x512x2048.Idx)
    (e0 : (i 0).val = s) (h1 : o ≤ (i 1).val) (h2 : (i 1).val < o + 256) :
    i = (sM.view.slice (Rect.unit (s := S2x512x2048) ![s, o, 0] S1x256x2048.size inb)).emb (ix3 (0 : Fin 1) (⟨(i 1).val - o, by omega⟩ : Fin 256) (i 2 : Fin 2048)) := by
  funext a
  refine Fin.ext ?_
  refine Eq.trans ?_ (unit_idx_val (s := S2x512x2048) _ _ inb _ a).symm
  fin_cases a
  · simpa using e0
  · simp; omega
  · simp

theorem rows_store {s o : ℕ} (lo : ℕ) (inb : ∀ a, (![s, o, 0] : Fin 3 → ℕ) a + S1x256x2048.size a ≤ S2x512x2048.size a) (f : FVec F S2x512x2048 .f32)
    (L : List (View.Piece (Elt F) S2x512x2048 .f32)) (w : FVec F S1x256x2048 .f32) (g : FVec F S4096x2048 .f32)
    (hw : ∀ (p : Fin 256) (q : Fin 2048) (j : S4096x2048.Idx), (j 0).val = lo + (o + p.val) → (j 1).val = q.val → w (ix3 (0 : Fin 1) p q) = g j) :
    RowsAre (sM.view.writes (Elt F) f (⟨Rect.unit (s := S2x512x2048) ![s, o, 0] S1x256x2048.size inb, w⟩ :: L)) s o lo g := by
  intro i j e0 h1 h2 e1 e2
  rw [View.writes_cons]
  have e := rows_emb inb i e0 h1 h2
  rw [e, View.write_emb_of_mem _ _ (Finset.mem_univ _)]
  exact hw _ _ j (by simp; omega) e2

theorem rows_other {s o o' : ℕ} (lo : ℕ) (ho : o' + 256 ≤ o ∨ o + 256 ≤ o') (inb : ∀ a, (![s, o', 0] : Fin 3 → ℕ) a + S1x256x2048.size a ≤ S2x512x2048.size a) (f : FVec F S2x512x2048 .f32)
    (L : List (View.Piece (Elt F) S2x512x2048 .f32)) (w : FVec F S1x256x2048 .f32) (g : FVec F S4096x2048 .f32)
    (hf : RowsAre (sM.view.writes (Elt F) f L) s o lo g) :
    RowsAre (sM.view.writes (Elt F) f (⟨Rect.unit (s := S2x512x2048) ![s, o', 0] S1x256x2048.size inb, w⟩ :: L)) s o lo g := by
  intro i j e0 h1 h2 e1 e2
  rw [View.writes_cons, View.write_of_not_mem]
  · exact hf i j e0 h1 h2 e1 e2
  · intro hi
    have hi2 : i ∈ (sM.view.slice (Rect.unit (s := S2x512x2048) ![s, o', 0] S1x256x2048.size inb)).set := hi
    rw [View.set_slice] at hi2
    have hi' := (mem_sM _ i).1 hi2
    rw [Rect.mem_set_unit] at hi'
    have a1 := hi' 1
    simp at a1
    omega

theorem rows_load {s o : ℕ} {lo : ℕ} (inb : ∀ a, (![s, o, 0] : Fin 3 → ℕ) a + S1x256x2048.size a ≤ S2x512x2048.size a) (f : FVec F S2x512x2048 .f32)
    (g : FVec F S4096x2048 .f32) (hf : RowsAre f s o lo g) (p : Fin 256) (q : Fin 2048) (j : S4096x2048.Idx) (e1 : (j 0).val = lo + (o + p.val)) (e2 : (j 1).val = q.val) :
    sM.view.readAt (Elt F) (Rect.unit (s := S2x512x2048) ![s, o, 0] S1x256x2048.size inb).toLoadRect f (ix3 (0 : Fin 1) p q) = g j := by
  show f ((Rect.unit (s := S2x512x2048) ![s, o, 0] S1x256x2048.size inb).idx (ix3 (0 : Fin 1) p q)) = g j
  have h0 : ((Rect.unit (s := S2x512x2048) ![s, o, 0] S1x256x2048.size inb).idx (ix3 (0 : Fin 1) p q) 0).val = s :=
    (unit_idx_val (s := S2x512x2048) ![s, o, 0] S1x256x2048.size inb (ix3 (0 : Fin 1) p q) 0).trans (by simp)
  have h1 : ((Rect.unit (s := S2x512x2048) ![s, o, 0] S1x256x2048.size inb).idx (ix3 (0 : Fin 1) p q) 1).val = o + p.val :=
    unit_idx_val (s := S2x512x2048) ![s, o, 0] S1x256x2048.size inb (ix3 (0 : Fin 1) p q) 1
  have h2 : ((Rect.unit (s := S2x512x2048) ![s, o, 0] S1x256x2048.size inb).idx (ix3 (0 : Fin 1) p q) 2).val = q.val :=
    (unit_idx_val (s := S2x512x2048) ![s, o, 0] S1x256x2048.size inb (ix3 (0 : Fin 1) p q) 2).trans (by simp)
  have hp := p.isLt
  exact hf _ j h0 (by rw [h1]; omega) (by rw [h1]; omega) (by rw [h1]; exact e1) (by rw [h2]; exact e2)

/-! ## The quantisation of 256 rows -/

/-- 256 rows quantised. -/
def qv (scale inv : F .f32) (v : Vec F S1x256x2048 .f32) : FVec F S1x256x2048 .f32 :=
  shapeCast S1x256x2048 (mulf (roundeven (mulf (shapeCast S256x2048 v shapeCasts_S1x256x2048_S256x2048) (broadcast S256x2048 inv))) (broadcast S256x2048 scale)) shapeCasts_S256x2048_S1x256x2048

theorem qv_at (scale inv : F .f32) (v : Vec F S1x256x2048 .f32) (p : Fin 256) (q : Fin 2048) :
    qv scale inv v (ix3 (0 : Fin 1) p q) = quant scale inv (v (ix3 (0 : Fin 1) p q)) := by
  refine (shapeCast_addUnit_apply (n := 2) ![256, 2048] _ shapeCasts_S256x2048_S1x256x2048 (ix3 (0 : Fin 1) p q)).trans ?_
  refine congrArg (quant scale inv) ((shapeCast_dropUnit_apply (n := 2) ![256, 2048] v shapeCasts_S1x256x2048_S256x2048 _).trans ?_)
  refine congrArg v ?_
  funext a; fin_cases a <;> rfl

/-! ## The copies -/

/-- 512 rows of the product being fetched into slot `r` at counter `n`. -/
abbrev fetching (c : Dev nD) (n : DmaSem sig) (d : Dev nD) (b : Fin 2) (s : ℕ) (r : Rect S2x512x2048) : sProp 𝕄 :=
  Transfers.Flight countersEmb (c : Thread nD τ) (.dma n) () 131072
    iprop(oRow c d b (yF m c) ∗ ∃ f, ⌜SlotIs f s (1024 * d.val + 512 * b.val) (yF m c)⌝ ∗ sPc c r f)

/-- 512 rows of the result being written from slot `r` at counter `n`. -/
abbrev writing (c : Dev nD) (n : DmaSem sig) (d : Dev nD) (b : Fin 2) (r : Rect S2x512x2048) : sProp 𝕄 :=
  Transfers.Flight countersEmb (c : Thread nD τ) (.dma n) () 131072 iprop(oRow c d b (qF m c) ∗ ∃ f, sPc c r f)

/-- 512 rows of `g` fetched into a slot. -/
theorem fetch_done (c d : Dev nD) (b : Fin 2) {off : Fin 2 → ℕ} (h : off = ![1024 * d.val + 512 * b.val, 0])
    (inb : ∀ a, off a + S512x2048.size a ≤ S4096x2048.size a) {hr'} {o : ℕ} (inb' : ∀ a, (![o, 0, 0] : Fin 3 → ℕ) a + S1x512x2048.size a ≤ S2x512x2048.size a) {hr} {hq}
    (g : FVec F S4096x2048 .f32) (G : FVec F S2x512x2048 .f32) :
    (iprop((sM.view.loc (c : Thread nD τ) ↦[(sSlot (Rect.unit (s := S2x512x2048) ![o, 0, 0] S1x512x2048.size inb') hr hq).view.set]{fullShare}
          (sSlot (Rect.unit (s := S2x512x2048) ![o, 0, 0] S1x512x2048.size inb') hr hq).view.write (Elt F) G
            ((oM.slice (Rect.unit (s := S4096x2048) off S512x2048.size inb) hr').view.read (Elt F) g) Finset.univ)
        ∗ (oM.view.loc (c : Thread nD τ) ↦[(oM.slice (Rect.unit (s := S4096x2048) off S512x2048.size inb) hr').view.set]{fullShare} g)) : sProp 𝕄)
      ⊢ iprop(oRow c d b g ∗ ∃ f, ⌜SlotIs f o (1024 * d.val + 512 * b.val) g⌝ ∗ sPc c (Rect.unit (s := S2x512x2048) ![o, 0, 0] S1x512x2048.size inb') f) := by
  have e1 := (congrArg (fun T => (oM.view.loc (c : Thread nD τ) ↦[T]{fullShare} g : sProp 𝕄)) (View.set_slice oM.view (Rect.unit (s := S4096x2048) off S512x2048.size inb))).trans (oPc_eq c d b h inb g)
  have e2 := fun G' => congrArg (fun T => (sM.view.loc (c : Thread nD τ) ↦[T]{fullShare} G' : sProp 𝕄)) (slice_set sM (Rect.unit (s := S2x512x2048) ![o, 0, 0] S1x512x2048.size inb') hr hq)
  iintro ⟨H1, H2⟩
  isplitl [H2]
  · iapply (Entails.of_eq e1); iexact H2
  · iexists _
    isplitr [H1]
    rotate_left
    · iapply (Entails.of_eq (e2 _)); iexact H1
    · ipureintro
      subst h
      refine SlotIs.of fun i j e0 e1 e2 => ?_
      have hi1 : (i 1).val < 512 := (i 1).isLt
      have hi2 : (i 2).val < 2048 := (i 2).isLt
      have hrd := congrFun (View.read_write_univ (v := (sSlot (Rect.unit (s := S2x512x2048) ![o, 0, 0] S1x512x2048.size inb') hr hq).view) G
        ((oM.slice (Rect.unit (s := S4096x2048) ![1024 * d.val + 512 * b.val, 0] S512x2048.size inb) hr').view.read (Elt F) g)) (ix2 (⟨(i 1).val, hi1⟩ : Fin 512) (⟨(i 2).val, hi2⟩ : Fin 2048))
      rw [slot_read inb' hr hq] at hrd
      have ei : i = ix3 (⟨o, by have := inb' 0; simpa using this⟩ : Fin 2) (⟨(i 1).val, hi1⟩ : Fin 512) (⟨(i 2).val, hi2⟩ : Fin 2048) := by
        funext a; fin_cases a
        · exact Fin.ext e0
        · rfl
        · rfl
      rw [ei]
      refine hrd.trans ?_
      show g _ = g j
      congr 1
      funext a
      refine Fin.ext ?_
      refine (unit_idx_val (s := S4096x2048) _ _ inb _ a).trans ?_
      fin_cases a
      · simpa using e1.symm
      · simpa using e2.symm

end Cert.KProof
-- ==== Proof.Quant.lean ====
/-
The steps of the quantisation: fetching 512 rows, quantising them and writing them back.
-/
module

public import proofs.«01_k».proof.Proof.Rounds

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

set_option sl_exec.dmaWindow true
set_option sl_exec.squeezeSlice true

/-- Starting to fetch 512 rows of the product. -/
theorem wp_fetch {α : Type} {Q : α → sProp 𝕄} (c d : Dev nD) (b : Fin 2) {n sem : DmaSem sig} (hs : sem = n) {lo : ℕ} (h : lo = 1024 * d.val + 512 * b.val)
    {inb : ∀ a, (![lo, 0] : Fin 2 → ℕ) a + S512x2048.size a ≤ S4096x2048.size a} {hr' : ∀ a, (Rect.unit (s := S4096x2048) ![lo, 0] S512x2048.size inb).stride a = 1} {o : ℕ}
    {inb' : ∀ a, (![o, 0, 0] : Fin 3 → ℕ) a + S1x512x2048.size a ≤ S2x512x2048.size a}
    {hr : ∀ a, (Rect.unit (s := S2x512x2048) ![o, 0, 0] S1x512x2048.size inb').stride a = 1} {hq : (Rect.unit (s := S2x512x2048) ![o, 0, 0] S1x512x2048.size inb').shape.Squeezes S512x2048}
    {hsrc : (oM.slice (Rect.unit (s := S4096x2048) ![lo, 0] S512x2048.size inb) hr').view.WordExact}
    {hdst : ((sM.slice (Rect.unit (s := S2x512x2048) ![o, 0, 0] S1x512x2048.size inb') hr).squeeze S512x2048 hq).view.WordExact}
    {hsem}
    {k : PUnit.{1} → Prog (TpuEff nD τ sig (Elt F) Λ₀ .tc) α} :
    iprop(oRow c d b (yF m c) ∗ (∃ f, sPc c (Rect.unit (s := S2x512x2048) ![o, 0, 0] S1x512x2048.size inb') f) ∗ semVal ((c : Thread nD τ), .dma n) 0)
      ⊢ iprop((fetching m c n d b o (Rect.unit (s := S2x512x2048) ![o, 0, 0] S1x512x2048.size inb') -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (oM.slice (Rect.unit (s := S4096x2048) ![lo, 0] S512x2048.size inb) hr')
            (.here ((sM.slice (Rect.unit (s := S2x512x2048) ![o, 0, 0] S1x512x2048.size inb') hr).squeeze S512x2048 hq)) (.dma sem) hsrc hdst hsem) k) Q) := by
  subst hs
  iintro ⟨HB, ⟨%f, HS⟩, Hz⟩ Hk
  have eB : (oPc c (Rect.unit (s := S4096x2048) ![lo, 0] S512x2048.size inb) (yF m c) : sProp 𝕄) = oRow c d b (yF m c) := oPc_eq c d b (by rw [h]) inb (yF m c)
  icases (Entails.of_eq eB.symm) $$ HB with HB
  sl_exec
  iapply Hk
  iapply (flight_mono (c : Thread nD τ) (.dma sem) 131072 (fetch_done c d b (by rw [h]) inb inb' (yF m c) f))
  iexact Hz

/-- Both halves of a slot, read as rows of the product and stored quantised. -/
theorem slot_quant (c : Dev nD) {s lo : ℕ} (f : FVec F S2x512x2048 .f32) (hf : SlotIs f s lo (yF m c))
    (inb0 : ∀ a, (![s, 0, 0] : Fin 3 → ℕ) a + S1x256x2048.size a ≤ S2x512x2048.size a) (inb1 : ∀ a, (![s, 256, 0] : Fin 3 → ℕ) a + S1x256x2048.size a ≤ S2x512x2048.size a) :
    SlotIs (sM.view.writes (Elt F) f
      [⟨Rect.unit (s := S2x512x2048) ![s, 256, 0] S1x256x2048.size inb1, qv (k0_pay43 (amaxF m)) (k0_pay44 (amaxF m)) (sM.view.readAt (Elt F) (Rect.unit (s := S2x512x2048) ![s, 256, 0] S1x256x2048.size inb1).toLoadRect f)⟩,
       ⟨Rect.unit (s := S2x512x2048) ![s, 0, 0] S1x256x2048.size inb0, qv (k0_pay43 (amaxF m)) (k0_pay44 (amaxF m)) (sM.view.readAt (Elt F) (Rect.unit (s := S2x512x2048) ![s, 0, 0] S1x256x2048.size inb0).toLoadRect f)⟩]) s lo (qF m c) :=
  ⟨rows_other lo (.inr (by decide)) inb1 f _ _ _ (rows_store lo inb0 f [] _ _ fun p q j e1 e2 =>
      (qv_at _ _ _ p q).trans (congrArg _ (rows_load inb0 f (yF m c) hf.1 p q j e1 e2))),
    rows_store lo inb1 f _ _ _ fun p q j e1 e2 =>
      (qv_at _ _ _ p q).trans (congrArg _ (rows_load inb1 f (yF m c) hf.2 p q j e1 e2))⟩

/-- Quantising a slot's 512 rows and starting to write them back. -/
theorem wp_quant {α : Type} {Q : α → sProp 𝕄} (c d : Dev nD) (b : Fin 2) {n sem : DmaSem sig} (hs : sem = n) {lo : ℕ} (h : lo = 1024 * d.val + 512 * b.val)
    {inb : ∀ a, (![lo, 0] : Fin 2 → ℕ) a + S512x2048.size a ≤ S4096x2048.size a} {hr' : ∀ a, (Rect.unit (s := S4096x2048) ![lo, 0] S512x2048.size inb).stride a = 1} {o : ℕ}
    (ho : o = 0 ∨ o = 1)
    {inb' : ∀ a, (![o, 0, 0] : Fin 3 → ℕ) a + S1x512x2048.size a ≤ S2x512x2048.size a}
    {hr : ∀ a, (Rect.unit (s := S2x512x2048) ![o, 0, 0] S1x512x2048.size inb').stride a = 1} {hq : (Rect.unit (s := S2x512x2048) ![o, 0, 0] S1x512x2048.size inb').shape.Squeezes S512x2048}
    {inb0 : ∀ a, (![o, 0, 0] : Fin 3 → ℕ) a + S1x256x2048.size a ≤ S2x512x2048.size a} {inb1 : ∀ a, (![o, 256, 0] : Fin 3 → ℕ) a + S1x256x2048.size a ≤ S2x512x2048.size a}
    {w0 w1 : Vec F S1x256x2048 .f32 → FVec F S1x256x2048 .f32} (hw0 : ∀ v, w0 v = qv (k0_pay43 (amaxF m)) (k0_pay44 (amaxF m)) v) (hw1 : ∀ v, w1 v = qv (k0_pay43 (amaxF m)) (k0_pay44 (amaxF m)) v)
    {l0 l0' l1 l1' s0 s0' s1 s1'} {hsrc hdst hsem}
    {k : PUnit.{1} → Prog (TpuEff nD τ sig (Elt F) Λ₀ .tc) α} :
    iprop((∃ f, ⌜SlotIs f o (1024 * d.val + 512 * b.val) (yF m c)⌝ ∗ sPc c (Rect.unit (s := S2x512x2048) ![o, 0, 0] S1x512x2048.size inb') f) ∗ (∃ f, oRow c d b f) ∗ semVal ((c : Thread nD τ), .dma n) 0)
      ⊢ iprop((writing m c n d b (Rect.unit (s := S2x512x2048) ![o, 0, 0] S1x512x2048.size inb') -∗ wp frame (wpE (defs₀ (F := F)) 𝒱₀ (c : Thread nD τ) none) Set.univ (k ⟨⟩) Q)
        -∗ wp frame (wpE (defs₀ (F := F)) 𝒱₀ (c : Thread nD τ) none) Set.univ (.op (.load sM (Rect.unit (s := S2x512x2048) ![o, 0, 0] S1x256x2048.size inb0).toLoadRect l0) fun v0 =>
            .op (.load sM (Rect.unit (s := S2x512x2048) ![o, 0, 0] S1x256x2048.size inb0).toLoadRect l0') fun _ =>
            .op (.store sM (Rect.unit (s := S2x512x2048) ![o, 0, 0] S1x256x2048.size inb0) (w0 v0) Finset.univ s0 s0') fun _ =>
            .op (.load sM (Rect.unit (s := S2x512x2048) ![o, 256, 0] S1x256x2048.size inb1).toLoadRect l1) fun v1 =>
            .op (.load sM (Rect.unit (s := S2x512x2048) ![o, 256, 0] S1x256x2048.size inb1).toLoadRect l1') fun _ =>
            .op (.store sM (Rect.unit (s := S2x512x2048) ![o, 256, 0] S1x256x2048.size inb1) (w1 v1) Finset.univ s1 s1') fun _ =>
            .op (.enqueueDma ((sM.slice (Rect.unit (s := S2x512x2048) ![o, 0, 0] S1x512x2048.size inb') hr).squeeze S512x2048 hq)
              (.here (oM.slice (Rect.unit (s := S4096x2048) ![lo, 0] S512x2048.size inb) hr')) (.dma sem) hsrc hdst hsem) k) Q) := by
  subst hs
  obtain rfl : w0 = qv (k0_pay43 (amaxF m)) (k0_pay44 (amaxF m)) := funext hw0
  obtain rfl : w1 = qv (k0_pay43 (amaxF m)) (k0_pay44 (amaxF m)) := funext hw1
  rcases ho with rfl | rfl
  · iintro ⟨⟨%f, %hf, HS⟩, ⟨%fo, HB⟩, Hz⟩ Hk
    have eB : (oPc c (Rect.unit (s := S4096x2048) ![lo, 0] S512x2048.size inb) fo : sProp 𝕄) = oRow c d b fo := oPc_eq c d b (by rw [h]) inb fo
    icases (Entails.of_eq eB.symm) $$ HB with HB
    sl_exec
    iapply Hk
    iapply (flight_mono (c : Thread nD τ) (.dma sem) 131072 (copy_done c d b (by rw [h]) inb inb' fo (qF m c) _ fun i j e0 e1 e2 => (slot_quant m c f hf inb0 inb1).at i j e0 e1 e2))
    iexact Hz
  · iintro ⟨⟨%f, %hf, HS⟩, ⟨%fo, HB⟩, Hz⟩ Hk
    have eB : (oPc c (Rect.unit (s := S4096x2048) ![lo, 0] S512x2048.size inb) fo : sProp 𝕄) = oRow c d b fo := oPc_eq c d b (by rw [h]) inb fo
    icases (Entails.of_eq eB.symm) $$ HB with HB
    sl_exec
    iapply Hk
    iapply (flight_mono (c : Thread nD τ) (.dma sem) 131072 (copy_done c d b (by rw [h]) inb inb' fo (qF m c) _ fun i j e0 e1 e2 => (slot_quant m c f hf inb0 inb1).at i j e0 e1 e2))
    iexact Hz

end Cert.KProof
-- ==== Proof.Turn.lean ====
/-
The rounds of the quantisation.
-/
module

public import proofs.«01_k».proof.Proof.Quant

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- Waiting for a copy inside the device when nothing is owed. -/
theorem wp_wait_own {α : Type} {Q : α → sProp 𝕄} (c : Dev nD) {n sem : DmaSem sig} (hs : sem = n) {sp sp' : Space} {s s' : Shape} {e e' : EltTy}
    {srcw : Memref sig .tc sp' s' e'} {dstw : Memref sig .tc sp s e} (hN : dstw.view.dmaCredit = 131072) {hsrc : srcw.view.WordExact} {hdst : dstw.view.WordExact}
    {k : PUnit.{1} → Prog (TpuEff nD τ sig (Elt F) Λ₀ .tc) α} {D : sProp 𝕄} :
    iprop(levAts L lv ∗ Transfers.Flight countersEmb (c : Thread nD τ) (.dma n) () 131072 D ∗ owing c [])
      ⊢ iprop((iprop(D ∗ semVal ((c : Thread nD τ), .dma n) 0 ∗ owing c []) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem srcw dstw hsrc hdst) k) Q) := by
  subst hs
  iintro ⟨#Hlev, HF, ⟨%W, HO⟩⟩ Hk
  iapply (wp_wait_copy c hN [] (fun _ h => absurd h List.not_mem_nil)) $$ [HF HO]
  · isplitr; · iexact Hlev
    isplitl [HF]; · iexact HF
    iexact HO
  iintro ⟨HD, Hz, HO⟩
  iapply Hk
  isplitl [HD]; · iexact HD
  isplitl [Hz]; · iexact Hz
  iexists _; iexact HO

/-- What a device holds between two rounds: 512 rows on their way into slot `o`, the 512 rows before them on their way out of slot `o'`. -/
abbrev turning (c : Dev nD) (n n' w w' : DmaSem sig) (d : Dev nD) (b : Fin 2) (d' : Dev nD) (b' : Fin 2) (o : ℕ) (r r' : Rect S2x512x2048) : sProp 𝕄 :=
  iprop(owing c [] ∗ fetching m c n d b o r ∗ writing m c w' d' b' r' ∗ semVal ((c : Thread nD τ), .dma w) 0 ∗ semVal ((c : Thread nD τ), .dma n') 0)

/-- One round: wait for this round's rows and for the other slot's rows to be out, start fetching the next rows there, quantise these and start writing
    them back. -/
theorem wp_round {α : Type} {Q : α → sProp 𝕄} (c : Dev nD) {n n' w w' a a' e e' : DmaSem sig} (hn : a = n) (hn' : a' = n') (hw : e = w) (hw' : e' = w')
    (d0 : Dev nD) (b0 : Fin 2) (d1 : Dev nD) (b1 : Fin 2) (d2 : Dev nD) (b2 : Fin 2) {u1 u2 : ℕ} (h1 : u1 = 1024 * d1.val + 512 * b1.val) (h2 : u2 = 1024 * d2.val + 512 * b2.val)
    {o p : ℕ} (ho : o = 0 ∨ o = 1)
    {iu1 : ∀ a, (![u1, 0] : Fin 2 → ℕ) a + S512x2048.size a ≤ S4096x2048.size a} {ru1 : ∀ a, (Rect.unit (s := S4096x2048) ![u1, 0] S512x2048.size iu1).stride a = 1}
    {iu2 : ∀ a, (![u2, 0] : Fin 2 → ℕ) a + S512x2048.size a ≤ S4096x2048.size a} {ru2 : ∀ a, (Rect.unit (s := S4096x2048) ![u2, 0] S512x2048.size iu2).stride a = 1}
    {io : ∀ a, (![o, 0, 0] : Fin 3 → ℕ) a + S1x512x2048.size a ≤ S2x512x2048.size a} {ro : ∀ a, (Rect.unit (s := S2x512x2048) ![o, 0, 0] S1x512x2048.size io).stride a = 1} {qo : (Rect.unit (s := S2x512x2048) ![o, 0, 0] S1x512x2048.size io).shape.Squeezes S512x2048}
    {ip : ∀ a, (![p, 0, 0] : Fin 3 → ℕ) a + S1x512x2048.size a ≤ S2x512x2048.size a} {rp : ∀ a, (Rect.unit (s := S2x512x2048) ![p, 0, 0] S1x512x2048.size ip).stride a = 1} {qp : (Rect.unit (s := S2x512x2048) ![p, 0, 0] S1x512x2048.size ip).shape.Squeezes S512x2048}
    {j0 : ∀ a, (![o, 0, 0] : Fin 3 → ℕ) a + S1x256x2048.size a ≤ S2x512x2048.size a} {j1 : ∀ a, (![o, 256, 0] : Fin 3 → ℕ) a + S1x256x2048.size a ≤ S2x512x2048.size a}
    {w0 w1 : Vec F S1x256x2048 .f32 → FVec F S1x256x2048 .f32} (hw0 : ∀ v, w0 v = qv (k0_pay43 (amaxF m)) (k0_pay44 (amaxF m)) v) (hw1 : ∀ v, w1 v = qv (k0_pay43 (amaxF m)) (k0_pay44 (amaxF m)) v)
    {sp0 sp1 : Space} {t0 t1 : Shape} {y0 y1 : EltTy} {src0 : Memref sig .tc sp0 t0 y0} {src1 : Memref sig .tc sp1 t1 y1}
    {dsp0 dsp1 : Space} {dt0 dt1 : Shape} {dy0 dy1 : EltTy} {dst0 : Memref sig .tc dsp0 dt0 dy0} {dst1 : Memref sig .tc dsp1 dt1 dy1}
    (N0 : dst0.view.dmaCredit = 131072) (N1 : dst1.view.dmaCredit = 131072)
    {x0 x0' x1 x1' f1 f2 f3 g1 g2 g3 l0 l0' l1 l1' s0 s0' s1 s1'}
    {k : PUnit.{1} → Prog (TpuEff nD τ sig (Elt F) Λ₀ .tc) α} :
    iprop(levAts L lv ∗ turning m c n n' w w' d1 b1 d0 b0 o (Rect.unit (s := S2x512x2048) ![o, 0, 0] S1x512x2048.size io) (Rect.unit (s := S2x512x2048) ![p, 0, 0] S1x512x2048.size ip) ∗ oRow c d2 b2 (yF m c))
      ⊢ iprop((iprop(turning m c n' n w' w d2 b2 d1 b1 p (Rect.unit (s := S2x512x2048) ![p, 0, 0] S1x512x2048.size ip) (Rect.unit (s := S2x512x2048) ![o, 0, 0] S1x512x2048.size io) ∗ oRow c d0 b0 (qF m c)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 a src0 dst0 x0 x0') fun _ =>
            .op (.waitDma2 e' src1 dst1 x1 x1') fun _ =>
            .op (.enqueueDma (oM.slice (Rect.unit (s := S4096x2048) ![u2, 0] S512x2048.size iu2) ru2) (.here ((sM.slice (Rect.unit (s := S2x512x2048) ![p, 0, 0] S1x512x2048.size ip) rp).squeeze S512x2048 qp)) (.dma a') f1 f2 f3) fun _ =>
            .op (.load sM (Rect.unit (s := S2x512x2048) ![o, 0, 0] S1x256x2048.size j0).toLoadRect l0) fun v0 =>
            .op (.load sM (Rect.unit (s := S2x512x2048) ![o, 0, 0] S1x256x2048.size j0).toLoadRect l0') fun _ =>
            .op (.store sM (Rect.unit (s := S2x512x2048) ![o, 0, 0] S1x256x2048.size j0) (w0 v0) Finset.univ s0 s0') fun _ =>
            .op (.load sM (Rect.unit (s := S2x512x2048) ![o, 256, 0] S1x256x2048.size j1).toLoadRect l1) fun v1 =>
            .op (.load sM (Rect.unit (s := S2x512x2048) ![o, 256, 0] S1x256x2048.size j1).toLoadRect l1') fun _ =>
            .op (.store sM (Rect.unit (s := S2x512x2048) ![o, 256, 0] S1x256x2048.size j1) (w1 v1) Finset.univ s1 s1') fun _ =>
            .op (.enqueueDma ((sM.slice (Rect.unit (s := S2x512x2048) ![o, 0, 0] S1x512x2048.size io) ro).squeeze S512x2048 qo) (.here (oM.slice (Rect.unit (s := S4096x2048) ![u1, 0] S512x2048.size iu1) ru1)) (.dma e) g1 g2 g3) k) Q) := by
  iintro ⟨#Hlev, ⟨HO, Hf, Hw, Hz, Hz'⟩, HR⟩ Hk
  iapply (wp_wait_own c hn N0) $$ [Hf HO]
  · isplitr; · iexact Hlev
    isplitl [Hf]; · iexact Hf
    iexact HO
  iintro ⟨⟨R1, HS⟩, Hn, HO⟩
  iapply (wp_wait_own c hw' N1) $$ [Hw HO]
  · isplitr; · iexact Hlev
    isplitl [Hw]; · iexact Hw
    iexact HO
  iintro ⟨⟨R0, HS'⟩, Hw, HO⟩
  iapply (wp_fetch m c d2 b2 hn' h2) $$ [HR HS' Hz']
  · isplitl [HR]; · iexact HR
    isplitl [HS']; · iexact HS'
    iexact Hz'
  iintro Hf
  iapply (wp_quant m c d1 b1 hw h1 ho hw0 hw1) $$ [HS R1 Hz]
  · isplitl [HS]; · iexact HS
    isplitl [R1]; · iexists _; iexact R1
    iexact Hz
  iintro Hw'
  iapply Hk
  isplitr [R0]
  · isplitl [HO]; · iexact HO
    isplitl [Hf]; · iexact Hf
    isplitl [Hw']; · iexact Hw'
    isplitl [Hw]; · iexact Hw
    iexact Hn
  iexact R0

/-- Every block of 512 rows but the first. -/
def restRows (c : Dev nD) (f : FVec F S4096x2048 .f32) : sProp 𝕄 :=
  iprop(oRow c 0 1 f ∗ (oRow c 1 0 f ∗ oRow c 1 1 f) ∗ (oRow c 2 0 f ∗ oRow c 2 1 f) ∗ (oRow c 3 0 f ∗ oRow c 3 1 f))

/-- The result as its eight blocks of 512 rows, in order. -/
theorem o_abs (c : Dev nD) (f : FVec F S4096x2048 .f32) :
    (oM.view.loc (c : Thread nD τ) ↦{fullShare} f : sProp 𝕄) ⊣⊢ iprop(oRow c 0 0 f ∗ restRows c f) := by
  have e : (oM.view.loc (c : Thread nD τ) ↦{fullShare} f : sProp 𝕄) = iprop(oBlk c 0 f ∗ oBlk c 1 f ∗ oBlk c 2 f ∗ oBlk c 3 f) :=
    four_eq (ℓ := oM.view.loc (c : Thread nD τ)) (fun t => blkSet t)
      (fun t t' h => by
        rw [Finset.disjoint_left]
        intro i hi hi'
        simp only [blkSet, Finset.mem_filter, Finset.mem_univ, true_and] at hi hi'
        exact h (Fin.ext (hi.symm.trans hi')))
      (fun i => by
        have h : (i 0).val < 4096 := (i 0).isLt
        exact ⟨⟨(i 0).val / 1024, by omega⟩, by simp only [blkSet, Finset.mem_filter, Finset.mem_univ, true_and]⟩) fullShare f
  rw [e]; unfold restRows
  constructor
  · iintro ⟨H0, H1, H2, H3⟩
    icases (oBlk_eq c 0 f).1 $$ H0 with ⟨H00, H01⟩
    isplitl [H00]; · iexact H00
    isplitl [H01]; · iexact H01
    isplitl [H1]; · iapply (oBlk_eq c 1 f).1; iexact H1
    isplitl [H2]; · iapply (oBlk_eq c 2 f).1; iexact H2
    iapply (oBlk_eq c 3 f).1; iexact H3
  · iintro ⟨H00, H01, H1, H2, H3⟩
    isplitl [H00 H01]
    · iapply (oBlk_eq c 0 f).2
      isplitl [H00]; · iexact H00
      iexact H01
    isplitl [H1]; · iapply (oBlk_eq c 1 f).2; iexact H1
    isplitl [H2]; · iapply (oBlk_eq c 2 f).2; iexact H2
    iapply (oBlk_eq c 3 f).2; iexact H3

end Cert.KProof
-- ==== Proof.Third.lean ====
/-
The quantisation.
-/
module

public import proofs.«01_k».proof.Proof.Turn

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The third stretch: every block of 512 rows quantised with the shared scale. -/
theorem stretch3_spec (c : Dev nD) (Q : PUnit → sProp 𝕄) :
    iprop(levAts L lv ∗ owing c [] ∗ fetching m c 10 0 0 0 rS0 ∗ restRows c (yF m c) ∗ (∃ f, sPc c rS1 f)
        ∗ semVal ((c : Thread nD τ), .dma (11 : DmaSem sig)) 0 ∗ semVal ((c : Thread nD τ), .dma (12 : DmaSem sig)) 0 ∗ semVal ((c : Thread nD τ), .dma (13 : DmaSem sig)) 0)
      ⊢ iprop((∀ r, iprop(owing c [] ∗ (oM.view.loc (c : Thread nD τ) ↦{fullShare} qF m c) ∗ (∃ f, sM.view.loc (c : Thread nD τ) ↦{fullShare} f) ∗ localSems c) -∗ Q r)
        -∗ wp frame (wpE (defs₀ (F := F)) 𝒱₀ (c : Thread nD τ) none) Set.univ (stretch3 (F := F) (k0_pay43 (amaxF m)) (k0_pay44 (amaxF m))) Q) := by
  unfold stretch3; rw [k0_part19_eq_skeleton, k0_part20_eq_skeleton]
  simp only [k0_part21_eq_skeleton, k0_part22_eq_skeleton, k0_part23_eq_skeleton, k0_part24_eq_skeleton, k0_part25_eq_skeleton, k0_part26_eq_skeleton, k0_part27_eq_skeleton, k0_part28_eq_skeleton]
  simp only [k0_part19_skel, k0_part20_skel, k0_part21_skel, k0_part22_skel, k0_part23_skel, k0_part24_skel, k0_part25_skel, k0_part26_skel, k0_part27_skel, k0_part28_skel]
  simp only [Prog.lift, Prog.bind_op, Prog.bind_ret, Prog.pure_eq_ret]
  unfold restRows localSems
  iintro ⟨#Hlev, HO, F0, ⟨R1, ⟨R2, R3⟩, ⟨R4, R5⟩, ⟨R6, R7⟩⟩, HS1, Z11, Z12, Z13⟩ HQ
  iapply (wp_wait_own c (n := 10) rfl rfl) $$ [F0 HO]
  · isplitr; · iexact Hlev
    isplitl [F0]; · iexact F0
    iexact HO
  iintro ⟨⟨R0, HS0⟩, Z10, HO⟩
  iapply (wp_fetch m c 0 1 (n := 11) rfl rfl) $$ [R1 HS1 Z11]
  · isplitl [R1]; · iexact R1
    isplitl [HS1]; · iexact HS1
    iexact Z11
  iintro Hf
  iapply (wp_quant m c 0 0 (n := 12) rfl rfl (.inl rfl) (fun _ => rfl) (fun _ => rfl)) $$ [HS0 R0 Z12]
  · isplitl [HS0]; · iexact HS0
    isplitl [R0]; · iexists _; iexact R0
    iexact Z12
  iintro Hw
  iapply (wp_round m c (n := 11) (n' := 10) (w := 13) (w' := 12) rfl rfl rfl rfl 0 0 0 1 1 0 rfl rfl (.inr rfl) (fun _ => rfl) (fun _ => rfl) rfl rfl) $$ [HO Hf Hw Z13 Z10 R2]
  · isplitr; · iexact Hlev
    isplitr [R2]
    · isplitl [HO]; · iexact HO
      isplitl [Hf]; · iexact Hf
      isplitl [Hw]; · iexact Hw
      isplitl [Z13]; · iexact Z13
      iexact Z10
    iexact R2
  iintro ⟨T, R0⟩
  iapply (wp_round m c (n := 10) (n' := 11) (w := 12) (w' := 13) rfl rfl rfl rfl 0 1 1 0 1 1 rfl rfl (.inl rfl) (fun _ => rfl) (fun _ => rfl) rfl rfl) $$ [T R3]
  · isplitr; · iexact Hlev
    isplitl [T]; · iexact T
    iexact R3
  iintro ⟨T, R1⟩
  iapply (wp_round m c (n := 11) (n' := 10) (w := 13) (w' := 12) rfl rfl rfl rfl 1 0 1 1 2 0 rfl rfl (.inr rfl) (fun _ => rfl) (fun _ => rfl) rfl rfl) $$ [T R4]
  · isplitr; · iexact Hlev
    isplitl [T]; · iexact T
    iexact R4
  iintro ⟨T, R2⟩
  iapply (wp_round m c (n := 10) (n' := 11) (w := 12) (w' := 13) rfl rfl rfl rfl 1 1 2 0 2 1 rfl rfl (.inl rfl) (fun _ => rfl) (fun _ => rfl) rfl rfl) $$ [T R5]
  · isplitr; · iexact Hlev
    isplitl [T]; · iexact T
    iexact R5
  iintro ⟨T, R3⟩
  iapply (wp_round m c (n := 11) (n' := 10) (w := 13) (w' := 12) rfl rfl rfl rfl 2 0 2 1 3 0 rfl rfl (.inr rfl) (fun _ => rfl) (fun _ => rfl) rfl rfl) $$ [T R6]
  · isplitr; · iexact Hlev
    isplitl [T]; · iexact T
    iexact R6
  iintro ⟨T, R4⟩
  iapply (wp_round m c (n := 10) (n' := 11) (w := 12) (w' := 13) rfl rfl rfl rfl 2 1 3 0 3 1 rfl rfl (.inl rfl) (fun _ => rfl) (fun _ => rfl) rfl rfl) $$ [T R7]
  · isplitr; · iexact Hlev
    isplitl [T]; · iexact T
    iexact R7
  iintro ⟨T, R5⟩
  icases T with ⟨HO, Hf, Hw, Z13, Z10⟩
  iapply (wp_wait_own c (n := 11) rfl rfl) $$ [Hf HO]
  · isplitr; · iexact Hlev
    isplitl [Hf]; · iexact Hf
    iexact HO
  iintro ⟨⟨R7, HS1⟩, Z11, HO⟩
  iapply (wp_quant m c 3 1 (n := 13) rfl rfl (.inr rfl) (fun _ => rfl) (fun _ => rfl)) $$ [HS1 R7 Z13]
  · isplitl [HS1]; · iexact HS1
    isplitl [R7]; · iexists _; iexact R7
    iexact Z13
  iintro Hw'
  iapply (wp_wait_own c (n := 12) rfl rfl) $$ [Hw HO]
  · isplitr; · iexact Hlev
    isplitl [Hw]; · iexact Hw
    iexact HO
  iintro ⟨⟨R6, HS0⟩, Z12, HO⟩
  iapply (wp_wait_own c (n := 13) rfl rfl) $$ [Hw' HO]
  · isplitr; · iexact Hlev
    isplitl [Hw']; · iexact Hw'
    iexact HO
  iintro ⟨⟨R7, HS1⟩, Z13, HO⟩
  rw [wp_ret]
  iapply fupd_intro
  iapply HQ
  isplitl [HO]; · iexact HO
  isplitl [R0 R1 R2 R3 R4 R5 R6 R7]
  · iapply (o_abs c (qF m c)).2
    unfold restRows
    isplitl [R0]; · iexact R0
    isplitl [R1]; · iexact R1
    isplitl [R2 R3]
    · isplitl [R2]; · iexact R2
      iexact R3
    isplitl [R4 R5]
    · isplitl [R4]; · iexact R4
      iexact R5
    isplitl [R6]; · iexact R6
    iexact R7
  icases HS0 with ⟨%f0, HS0⟩
  icases HS1 with ⟨%f1, HS1⟩
  isplitl [HS0 HS1]
  · iapply (s_join c f0 f1)
    isplitl [HS0]; · iexact HS0
    iexact HS1
  isplitl [Z10]; · iexact Z10
  isplitl [Z11]; · iexact Z11
  isplitl [Z12]; · iexact Z12
  iexact Z13

end Cert.KProof
-- ==== Proof.Rows.lean ====
/-
The rows of the buffers of maxima: storing one's own, sending it, and reading them all.
-/
module

public import proofs.«01_k».proof.Proof.Turn

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

variable (K : Dev nD × Fin 15 → ℕ)

set_option sl_exec.dmaWindow true
set_option sl_exec.squeezeSlice true

/-- A row as the transfers name it. -/
abbrev aRow (d : Dev nD) (hr : ∀ a, (rA d).stride a = 1) : Memref sig .tc .vmem S1x128 .f32 := aM.slice (rA d) hr

theorem row_slot (c d : Dev nD) (hr) (q : PosShare TreeShare) (f : FVec F S4x128 .f32) :
    ((aRow d hr).view.loc (c : Thread nD τ) ↦[(aRow d hr).view.set]{q} f : sProp 𝕄) = aPc c d q f :=
  congrArg (fun T => (aM.view.loc (c : Thread nD τ) ↦[T]{q} f : sProp 𝕄)) (View.set_slice aM.view (rA d))

/-- Starting to send one's row of maxima to the device `s` places on. -/
theorem wp_send_row {α : Type} {Q : α → sProp 𝕄} (c n : Dev nD) (s : Fin 4) (hn : n = sh s c) (k₁ k₂ : Fin 15) (hk₁ : k₁ ≠ 0) (hk₂ : k₂ ≠ 0) (ha : amt k₁ = amt k₂)
    (q : PosShare TreeShare) {hr hr'} {hsc : (aRow c hr').view.ref.isScScratch = false} {sS sem : SemLoc sig} (h₁ : sS = csem k₁) (h₂ : sem = csem k₂)
    {hsrc : (aRow c hr).view.WordExact} {hdst : (aRow c hr').view.WordExact} {hsem}
    (hN : (aRow c hr').view.amount sem = amt k₂)
    (hp₁ : (aPc c c q (amaxF m) : sProp 𝕄) = payF m c k₁ 0) (hp₂ : (aPc (sh s c) c fullShare (amaxF m) : sProp 𝕄) = payF m (sh s c) k₂ 0)
    {l : List (Fin 4 × Fin 15)} {k : PUnit.{1} → Prog (TpuEff nD τ sig (Elt F) Λ₀ .tc) α} :
    iprop(records m K ∗ aPc c c q (amaxF m) ∗ (∃ f, aPc (sh s c) c fullShare f) ∗ owing c ((s, k₂) :: l) ∗ dutyTok ER (kcell (c, k₁)) 0 0 ∗ dutyTok ER (kcell (sh s c, k₂)) 0 0)
      ⊢ iprop(((cred (tallyAt (kcell (c, k₁)) () (tot k₁)) ∗ owing c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (aRow c hr) (.remote (Dev.tc n : Thread nD τ) (aRow c hr') sS hsc) sem hsrc hdst hsem) k) Q) := by
  iintro ⟨#HR, HA, ⟨%f, HB⟩, ⟨%W, HO⟩, T1, T2⟩ Hk
  iapply (wp_send_block m K c n s hn k₁ k₂ hk₁ hk₂ ha (src := aRow c hr) (dst := aRow c hr') (q := q) h₁ h₂ hN (fs := amaxF m) (fd := f)
    (Entails.of_eq ((row_slot c c hr q (amaxF m)).trans hp₁))
    (Entails.of_eq (((landed_eq (sh s c) (aRow c hr').view fullShare f (amaxF m) _ rfl).trans (row_slot (sh s c) c hr' fullShare (amaxF m))).trans hp₂))) $$ [HA HB HO T1 T2]
  · isplitr; · iexact HR
    isplitl [HA]; · iapply (Entails.of_eq (row_slot c c hr q (amaxF m)).symm); iexact HA
    isplitl [HB]; · iapply (Entails.of_eq (row_slot (sh s c) c hr' fullShare f).symm); iexact HB
    isplitl [HO]; · iexact HO
    isplitl [T1]; · iexact T1
    iexact T2
  iintro ⟨HC, HO⟩
  iapply Hk
  isplitl [HC]; · iexact HC
  iexists _; iexact HO

/-- A device's own row, filled with its largest magnitude. -/
theorem own_row (c : Dev nD) {off : Fin 2 → ℕ} (h : off = k0_off5 c) (inb : ∀ a, off a + S1x128.size a ≤ S4x128.size a) (f : FVec F S4x128 .f32) :
    (aM.view.loc (c : Thread nD τ) ↦[aM.view.setOn (Rect.unit (s := S4x128) off S1x128.size inb).set]{fullShare}
      aM.view.writes (Elt F) f [⟨Rect.unit (s := S4x128) off S1x128.size inb, k0_pay41 (mxF m c)⟩] : sProp 𝕄) = aPc c c fullShare (amaxF m) := by
  subst h
  refine pointsTo_congr fun i hi => ?_
  have hc := (mem_row c i).1 ((mem_aM (rA c) i).1 hi)
  have hi' : i ∈ (aM.view.slice (rA c)).set := by rw [View.set_slice]; exact hi
  obtain ⟨x, -, rfl⟩ := Finset.mem_map.mp hi'
  rw [View.writes_cons, View.write_emb_of_mem _ _ (Finset.mem_univ _)]
  refine Eq.trans ?_ (congrArg (mxF m) (Fin.ext hc)).symm
  show shapeCast S1x128 (broadcast S1x128 (mxF m c)) shapeCasts_S1x128_S1x128 x = mxF m c
  rfl

theorem wp_own_row {α : Type} {Q : α → sProp 𝕄} (c : Dev nD) {inb : ∀ a, k0_off4 c a + S1x128.size a ≤ S4x128.size a} {l s s'}
    {k : PUnit.{1} → Prog (TpuEff nD τ sig (Elt F) Λ₀ .tc) α} :
    (iprop(∃ f, aPc c c fullShare f) : sProp 𝕄)
      ⊢ iprop((aPc c c fullShare (amaxF m) -∗ wp frame (wpE (defs₀ (F := F)) 𝒱₀ (c : Thread nD τ) none) Set.univ (k ⟨⟩) Q)
        -∗ wp frame (wpE (defs₀ (F := F)) 𝒱₀ (c : Thread nD τ) none) Set.univ (.op (.load aM (Rect.unit (s := S4x128) (k0_off4 c) S1x128.size inb).toLoadRect l) fun _ =>
            .op (.store aM (Rect.unit (s := S4x128) (k0_off4 c) S1x128.size inb) (k0_pay41 (mxF m c)) Finset.univ s s') k) Q) := by
  iintro ⟨%f, HA⟩ Hk
  have h : k0_off4 c = k0_off5 c := (k0_off4_eq c).trans (k0_off5_eq c).symm
  have e : (aM.view.loc (c : Thread nD τ) ↦[aM.view.setOn (Rect.unit (s := S4x128) (k0_off4 c) S1x128.size inb).set]{fullShare} f : sProp 𝕄) = aPc c c fullShare f := by
    unfold aPc rA; congr 3
  icases (Entails.of_eq e.symm) $$ HA with HA
  sl_exec
  iapply Hk
  iapply (Entails.of_eq (own_row m c h inb f))
  iexact HA

/-- Reading all the maxima. -/
theorem wp_maxima {α : Type} {Q : α → sProp 𝕄} (c : Dev nD) {inb : ∀ a, (![0, 0] : Fin 2 → ℕ) a + S4x128.size a ≤ S4x128.size a} {l}
    {k : Vec F S4x128 .f32 → Prog (TpuEff nD τ sig (Elt F) Λ₀ .tc) α} :
    (aM.view.loc (c : Thread nD τ) ↦{fullShare} amaxF m : sProp 𝕄)
      ⊢ iprop(((aM.view.loc (c : Thread nD τ) ↦{fullShare} amaxF m) -∗ wp frame (wpE (defs₀ (F := F)) 𝒱₀ (c : Thread nD τ) none) Set.univ (k (amaxF m)) Q)
        -∗ wp frame (wpE (defs₀ (F := F)) 𝒱₀ (c : Thread nD τ) none) Set.univ (.op (.load aM (Rect.unit (s := S4x128) ![0, 0] S4x128.size inb).toLoadRect l) k) Q) := by
  iintro HA Hk
  sl_exec
  have e : aM.view.readAt (Elt F) (Rect.unit (s := S4x128) ![0, 0] S4x128.size inb).toLoadRect (amaxF m) = amaxF m := by
    funext i
    show amaxF m ((Rect.unit (s := S4x128) ![0, 0] S4x128.size inb).idx i) = amaxF m i
    refine congrArg (amaxF m) (funext fun a => Fin.ext ((unit_idx_val (s := S4x128) ![0, 0] S4x128.size inb i a).trans ?_))
    fin_cases a <;> simp
  iapply (Entails.of_eq (congrArg (fun v => (wp frame (wpE (defs₀ (F := F)) 𝒱₀ (c : Thread nD τ) none) Set.univ (k v) Q : sProp 𝕄)) e).symm)
  iapply Hk
  iexact HA

end Cert.KProof
-- ==== Proof.Second.lean ====
/-
The second stretch: the exchange of the largest magnitudes.
-/
module

public import proofs.«01_k».proof.Proof.Rows

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

variable (K : Dev nD × Fin 15 → ℕ)

set_option maxHeartbeats 1000000

/-- Every counter the devices share is at rest. -/
def cellsDone (c : Dev nD) : sProp 𝕄 :=
  iprop(semVal (kcell (c, 0)) 0 ∗ semVal (kcell (c, 1)) 0 ∗ semVal (kcell (c, 2)) 0 ∗ semVal (kcell (c, 3)) 0 ∗ semVal (kcell (c, 4)) 0
    ∗ semVal (kcell (c, 5)) 0 ∗ semVal (kcell (c, 6)) 0 ∗ semVal (kcell (c, 7)) 0 ∗ semVal (kcell (c, 8)) 0 ∗ semVal (kcell (c, 9)) 0
    ∗ semVal (kcell (c, 10)) 0 ∗ semVal (kcell (c, 11)) 0 ∗ semVal (kcell (c, 12)) 0 ∗ semVal (kcell (c, 13)) 0 ∗ semVal (kcell (c, 14)) 0)

/-- What a copy of one row of maxima counts. -/
theorem row_credit (off : Fin 2 → ℕ) (inb : ∀ a, off a + S1x128.size a ≤ S4x128.size a) (hr) :
    (aM.slice (Rect.unit (s := S4x128) off S1x128.size inb) hr).view.dmaCredit = 16 := by
  refine Eq.trans (b := (aM.slice (Rect.unit (s := S4x128) ![0, 0] S1x128.size (by decide)) (fun _ => rfl)).view.dmaCredit) rfl ?_
  decide

/-- The buffer of received rows, whole again. -/
theorem comm_back (c : Dev nD) :
    (iprop(cPc c rLlo qA (commF m c) ∗ cPc c rLlo qB (commF m c) ∗ cPc c rLlo qC (commF m c) ∗ cPc c rLhi fullShare (commF m c)
      ∗ cPc c rRlo fullShare (commF m c) ∗ cPc c rRhi qA (commF m c) ∗ cPc c rRhi qB (commF m c) ∗ cPc c rRhi qC (commF m c)
      ∗ cPc c rOlo fullShare (commF m c) ∗ cPc c rOhi fullShare (commF m c)) : sProp 𝕄) ⊢ iprop(∃ f, cM.view.loc (c : Thread nD τ) ↦{fullShare} f) := by
  iintro ⟨LA, LB, LC, Lhi, Rlo, RA, RB, RC, Olo, Ohi⟩
  iapply (comm_join c (commF m c) (commF m c) (commF m c) (commF m c))
  isplitl [LA LB LC Lhi]
  · iapply (halfL c fullShare (commF m c)).2
    isplitr [Lhi]
    · iapply (shares3 _ (commF m c)).2
      isplitl [LA]; · iexact LA
      isplitl [LB]; · iexact LB
      iexact LC
    iexact Lhi
  isplitl [Rlo RA RB RC]
  · iapply (halfR c fullShare (commF m c)).2
    isplitl [Rlo]; · iexact Rlo
    iapply (shares3 _ (commF m c)).2
    isplitl [RA]; · iexact RA
    isplitl [RB]; · iexact RB
    iexact RC
  isplitl [Olo]; · iexact Olo
  iexact Ohi

/-- The buffer of maxima, whole again. -/
theorem amax_back (c : Dev nD) :
    (iprop(aPc c c qA (amaxF m) ∗ aPc c c qB (amaxF m) ∗ aPc c c qC (amaxF m) ∗ aPc c (sh 1 c) fullShare (amaxF m) ∗ aPc c (sh 2 c) fullShare (amaxF m)
      ∗ aPc c (sh 3 c) fullShare (amaxF m)) : sProp 𝕄) ⊢ (aM.view.loc (c : Thread nD τ) ↦{fullShare} amaxF m) := by
  have e : (aPc c (sh 0 c) fullShare (amaxF m) : sProp 𝕄) = aPc c c fullShare (amaxF m) := by rw [sh_zero]
  rw [amax_split c fullShare (amaxF m), e]
  iintro ⟨HA, HB, HC, H1, H2, H3⟩
  isplitl [HA HB HC]
  · iapply (shares3 _ (amaxF m)).2
    isplitl [HA]; · iexact HA
    isplitl [HB]; · iexact HB
    iexact HC
  isplitl [H1]; · iexact H1
  isplitl [H2]; · iexact H2
  iexact H3

/-- The maxima are exchanged, every counter comes to rest, and the two scales are known. -/
theorem stretch2_spec (c : Dev nD) (v2 : BitVec 32) (Q : (Σ' (v532 : F .f32), F .f32) → sProp 𝕄) :
    iprop(records m K ∗ levAts L lv ∗ owing c (payList.drop 7) ∗ afterProduct m c
      ∗ cred (tallyAt (kcell (c, 5)) () (tot 5)) ∗ cred (tallyAt (kcell (c, 6)) () (tot 6)) ∗ cred (tallyAt (kcell (c, 7)) () (tot 7))
      ∗ atPos ER (kcell (c, 5)) 0 ∅ 0 ∗ atPos ER (kcell (c, 6)) 0 ∅ 0 ∗ atPos ER (kcell (c, 7)) 0 ∅ 0 ∗ atPos ER (kcell (c, 8)) 0 ∅ 0 ∗ atPos ER (kcell (c, 9)) 0 ∅ 0
      ∗ atPos ER (kcell (c, 10)) 0 ∅ 0 ∗ atPos ER (kcell (c, 11)) 0 ∅ 0 ∗ atPos ER (kcell (c, 12)) 0 ∅ 0 ∗ atPos ER (kcell (c, 13)) 0 ∅ 0 ∗ atPos ER (kcell (c, 14)) 0 ∅ 0
      ∗ dutyTok ER (kcell (sh 1 c, 5)) 0 0 ∗ dutyTok ER (kcell (sh 2 c, 6)) 0 0 ∗ dutyTok ER (kcell (sh 3 c, 7)) 0 0
      ∗ dutyTok ER (kcell (c, 12)) 0 0 ∗ dutyTok ER (kcell (c, 13)) 0 0 ∗ dutyTok ER (kcell (c, 14)) 0 0
      ∗ (oM.view.loc (c : Thread nD τ) ↦{fullShare} yF m c) ∗ (∃ f, sM.view.loc (c : Thread nD τ) ↦{fullShare} f)
      ∗ semVal ((c : Thread nD τ), .dma (10 : DmaSem sig)) 0)
      ⊢ iprop((∀ r, (⌜r.1 = k0_pay43 (amaxF m) ∧ r.2 = k0_pay44 (amaxF m)⌝ ∗ owing c [] ∗ fetching m c 10 0 0 0 rS0 ∗ restRows c (yF m c) ∗ (∃ f, sPc c rS1 f)
            ∗ xPc m c fullShare ∗ (∃ f, cM.view.loc (c : Thread nD τ) ↦{fullShare} f) ∗ (∃ f, aM.view.loc (c : Thread nD τ) ↦{fullShare} f) ∗ cellsDone c) -∗ Q r)
        -∗ wp frame (wpE (defs₀ (F := F)) 𝒱₀ (c : Thread nD τ) none) Set.univ (stretch2 (F := F) c v2 (mxF m c)) Q) := by
  unfold stretch2; rw [k0_part16_eq_skeleton, k0_part17_eq_skeleton, k0_part18_eq_skeleton]
  simp only [k0_part16_skel, k0_part17_skel, k0_part18_skel]
  simp only [Prog.lift, Prog.bind_op, Prog.bind_ret, Prog.pure_eq_ret]
  unfold afterProduct
  iintro ⟨#HR, #Hlev, HO, ⟨AM0, AM1, AM2, AM3, XA, LA, LC, Lhi, Rlo, RA, RC, Olo, Ohi, C8, C9, C10, C11, Z0, Z1, Z2, Z3, Z4⟩, C5, C6, C7, A5, A6, A7, A8, A9, A10, A11, A12, A13, A14, T5, T6, T7, T12, T13, T14, HD, ⟨%fs, HS⟩, Z⟩ HQ
  icases (Entails.of_eq (s_split c fs)) $$ HS with ⟨HS0, HS1⟩
  icases (o_abs c (yF m c)).1 $$ HD with ⟨R0, RR⟩
  iapply (wp_fetch m c 0 0 (n := 10) rfl rfl) $$ [R0 HS0 Z]
  · isplitl [R0]; · iexact R0
    isplitl [HS0]; · iexists _; iexact HS0
    iexact Z
  iintro Hf
  iapply (wp_wait_block m K c 8 (by decide) rfl (by decide) (payList.drop 7) (by decide)) $$ [C8 HO A8]
  · isplitr; · iexact HR
    isplitr; · iexact Hlev
    isplitl [C8]; · iexact C8
    isplitl [HO]; · iexact HO
    iexact A8
  iintro ⟨P8, Z8, HO⟩
  icases (Entails.of_eq (payF_8 m c)) $$ P8 with P8
  iapply (wp_wait_block m K c 9 (by decide) rfl (by decide) (payList.drop 7) (by decide)) $$ [C9 HO A9]
  · isplitr; · iexact HR
    isplitr; · iexact Hlev
    isplitl [C9]; · iexact C9
    isplitl [HO]; · iexact HO
    iexact A9
  iintro ⟨P9, Z9, HO⟩
  icases (Entails.of_eq (payF_9 m c)) $$ P9 with P9
  iapply (wp_wait_block m K c 10 (by decide) rfl (by decide) (payList.drop 7) (by decide)) $$ [C10 HO A10]
  · isplitr; · iexact HR
    isplitr; · iexact Hlev
    isplitl [C10]; · iexact C10
    isplitl [HO]; · iexact HO
    iexact A10
  iintro ⟨P10, Z10, HO⟩
  icases (Entails.of_eq (payF_10 m c)) $$ P10 with P10
  iapply (wp_wait_block m K c 11 (by decide) rfl (by decide) (payList.drop 7) (by decide)) $$ [C11 HO A11]
  · isplitr; · iexact HR
    isplitr; · iexact Hlev
    isplitl [C11]; · iexact C11
    isplitl [HO]; · iexact HO
    iexact A11
  iintro ⟨P11, Z11, HO⟩
  icases (Entails.of_eq (payF_11 m c)) $$ P11 with P11
  iapply (wp_own_row m c) $$ AM0
  iintro AM0
  icases (shares3 _ (amaxF m)).1 $$ AM0 with ⟨MA, MB, MC⟩
  iapply (wp_send_row m K c _ 1 (Fin.ext (k0_dev8_eq c)) 12 5 (by decide) (by decide) rfl qA rfl rfl (row_credit _ _ _) (payF_12 m c).symm
    (by rw [payF_5, (sh_pairs c).1]) (l := payList.drop 8)) $$ [MA AM1 HO T12 T5]
  · isplitr; · iexact HR
    isplitl [MA]; · iexact MA
    isplitl [AM1]; · iexact AM1
    isplitl [HO]; · iexact HO
    isplitl [T12]; · iexact T12
    iexact T5
  iintro ⟨C12, HO⟩
  iapply (wp_send_row m K c _ 2 (Fin.ext (k0_dev9_eq c)) 13 6 (by decide) (by decide) rfl qB rfl rfl (row_credit _ _ _) (payF_13 m c).symm
    (by rw [payF_6, (sh_pairs c).2.1]) (l := payList.drop 9)) $$ [MB AM2 HO T13 T6]
  · isplitr; · iexact HR
    isplitl [MB]; · iexact MB
    isplitl [AM2]; · iexact AM2
    isplitl [HO]; · iexact HO
    isplitl [T13]; · iexact T13
    iexact T6
  iintro ⟨C13, HO⟩
  iapply (wp_send_row m K c _ 3 (Fin.ext (k0_dev10_eq c)) 14 7 (by decide) (by decide) rfl qC rfl rfl (row_credit _ _ _) (payF_14 m c).symm
    (by rw [payF_7, (sh_pairs c).2.2]) (l := payList.drop 10)) $$ [MC AM3 HO T14 T7]
  · isplitr; · iexact HR
    isplitl [MC]; · iexact MC
    isplitl [AM3]; · iexact AM3
    isplitl [HO]; · iexact HO
    isplitl [T14]; · iexact T14
    iexact T7
  iintro ⟨C14, HO⟩
  iapply (wp_wait_block m K c 5 (by decide) rfl (row_credit _ _ _) (payList.drop 10) (by decide)) $$ [C5 HO A5]
  · isplitr; · iexact HR
    isplitr; · iexact Hlev
    isplitl [C5]; · iexact C5
    isplitl [HO]; · iexact HO
    iexact A5
  iintro ⟨P5, Z5, HO⟩
  icases (Entails.of_eq (payF_5 m c)) $$ P5 with P5
  iapply (wp_wait_block m K c 6 (by decide) rfl (row_credit _ _ _) (payList.drop 10) (by decide)) $$ [C6 HO A6]
  · isplitr; · iexact HR
    isplitr; · iexact Hlev
    isplitl [C6]; · iexact C6
    isplitl [HO]; · iexact HO
    iexact A6
  iintro ⟨P6, Z6, HO⟩
  icases (Entails.of_eq (payF_6 m c)) $$ P6 with P6
  iapply (wp_wait_block m K c 7 (by decide) rfl (row_credit _ _ _) (payList.drop 10) (by decide)) $$ [C7 HO A7]
  · isplitr; · iexact HR
    isplitr; · iexact Hlev
    isplitl [C7]; · iexact C7
    isplitl [HO]; · iexact HO
    iexact A7
  iintro ⟨P7, Z7, HO⟩
  icases (Entails.of_eq (payF_7 m c)) $$ P7 with P7
  iapply (wp_wait_block m K c 12 (by decide) rfl (row_credit _ _ _) (payList.drop 10) (by decide)) $$ [C12 HO A12]
  · isplitr; · iexact HR
    isplitr; · iexact Hlev
    isplitl [C12]; · iexact C12
    isplitl [HO]; · iexact HO
    iexact A12
  iintro ⟨P12, Z12, HO⟩
  icases (Entails.of_eq (payF_12 m c)) $$ P12 with P12
  iapply (wp_wait_block m K c 13 (by decide) rfl (row_credit _ _ _) (payList.drop 10) (by decide)) $$ [C13 HO A13]
  · isplitr; · iexact HR
    isplitr; · iexact Hlev
    isplitl [C13]; · iexact C13
    isplitl [HO]; · iexact HO
    iexact A13
  iintro ⟨P13, Z13, HO⟩
  icases (Entails.of_eq (payF_13 m c)) $$ P13 with P13
  iapply (wp_wait_block m K c 14 (by decide) rfl (row_credit _ _ _) (payList.drop 10) (by decide)) $$ [C14 HO A14]
  · isplitr; · iexact HR
    isplitr; · iexact Hlev
    isplitl [C14]; · iexact C14
    isplitl [HO]; · iexact HO
    iexact A14
  iintro ⟨P14, Z14, HO⟩
  icases (Entails.of_eq (payF_14 m c)) $$ P14 with P14
  icases (amax_back m c) $$ [P12 P13 P14 P7 P6 P5] with HA
  · isplitl [P12]; · iexact P12
    isplitl [P13]; · iexact P13
    isplitl [P14]; · iexact P14
    isplitl [P7]; · iexact P7
    isplitl [P6]; · iexact P6
    iexact P5
  iapply (wp_maxima m c) $$ HA
  iintro HA
  rw [wp_ret]
  iapply fupd_intro
  iapply HQ
  isplitr; · ipureintro; exact ⟨rfl, rfl⟩
  isplitl [HO]; · iexact HO
  isplitl [Hf]; · iexact Hf
  isplitl [RR]; · iexact RR
  isplitl [HS1]; · iexists _; iexact HS1
  isplitl [XA P8 P9]
  · iapply (shares3 _ (xstg m c)).2
    isplitl [XA]; · iexact XA
    isplitl [P8]; · iexact P8
    iexact P9
  isplitl [LA P10 LC Lhi Rlo RA P11 RC Olo Ohi]
  · iapply (comm_back m c)
    isplitl [LA]; · iexact LA
    isplitl [P10]; · iexact P10
    isplitl [LC]; · iexact LC
    isplitl [Lhi]; · iexact Lhi
    isplitl [Rlo]; · iexact Rlo
    isplitl [RA]; · iexact RA
    isplitl [P11]; · iexact P11
    isplitl [RC]; · iexact RC
    isplitl [Olo]; · iexact Olo
    iexact Ohi
  isplitl [HA]; · iexists _; iexact HA
  unfold cellsDone
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  isplitl [Z12]; · iexact Z12
  isplitl [Z13]; · iexact Z13
  iexact Z14

end Cert.KProof
-- ==== Proof.Whole.lean ====
/-
The whole body: the product, the exchange of maxima, the quantisation.
-/
module

public import proofs.«01_k».proof.Proof.Third
public import proofs.«01_k».proof.Proof.Second

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

variable (K : Dev nD × Fin 15 → ℕ)

/-- The right to wait for the counters that the other devices raise. -/
def creds (c : Dev nD) : sProp 𝕄 :=
  iprop(cred (tallyAt (kcell (c, 0)) () (tot 0)) ∗ cred (tallyAt (kcell (c, 1)) () (tot 1)) ∗ cred (tallyAt (kcell (c, 2)) () (tot 2))
    ∗ cred (tallyAt (kcell (c, 3)) () (tot 3)) ∗ cred (tallyAt (kcell (c, 4)) () (tot 4)) ∗ cred (tallyAt (kcell (c, 5)) () (tot 5))
    ∗ cred (tallyAt (kcell (c, 6)) () (tot 6)) ∗ cred (tallyAt (kcell (c, 7)) () (tot 7)))

/-- The device's own fifteen counters stand at the start of their round. -/
def positions (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0
    ∗ atPos ER (kcell (c, 5)) 0 ∅ 0 ∗ atPos ER (kcell (c, 6)) 0 ∅ 0 ∗ atPos ER (kcell (c, 7)) 0 ∅ 0 ∗ atPos ER (kcell (c, 8)) 0 ∅ 0 ∗ atPos ER (kcell (c, 9)) 0 ∅ 0
    ∗ atPos ER (kcell (c, 10)) 0 ∅ 0 ∗ atPos ER (kcell (c, 11)) 0 ∅ 0 ∗ atPos ER (kcell (c, 12)) 0 ∅ 0 ∗ atPos ER (kcell (c, 13)) 0 ∅ 0 ∗ atPos ER (kcell (c, 14)) 0 ∅ 0)

/-- The raises a device performs, on other devices' counters and on its own. -/
def payToks (c : Dev nD) : sProp 𝕄 :=
  iprop(dutyTok ER (kcell (sh 1 c, 0)) 0 1 ∗ dutyTok ER (kcell (sh 2 c, 0)) 0 2 ∗ dutyTok ER (kcell (sh 3 c, 0)) 0 3
    ∗ dutyTok ER (kcell (sh 1 c, 1)) 0 0 ∗ dutyTok ER (kcell (sh 3 c, 2)) 0 0 ∗ dutyTok ER (kcell (sh 1 c, 3)) 0 0 ∗ dutyTok ER (kcell (sh 3 c, 4)) 0 0
    ∗ dutyTok ER (kcell (c, 8)) 0 0 ∗ dutyTok ER (kcell (c, 9)) 0 0 ∗ dutyTok ER (kcell (c, 10)) 0 0 ∗ dutyTok ER (kcell (c, 11)) 0 0
    ∗ dutyTok ER (kcell (sh 1 c, 5)) 0 0 ∗ dutyTok ER (kcell (sh 2 c, 6)) 0 0 ∗ dutyTok ER (kcell (sh 3 c, 7)) 0 0
    ∗ dutyTok ER (kcell (c, 12)) 0 0 ∗ dutyTok ER (kcell (c, 13)) 0 0 ∗ dutyTok ER (kcell (c, 14)) 0 0)

/-- The buffers the body works in, whatever they hold. -/
def scratch (c : Dev nD) : sProp 𝕄 :=
  iprop((∃ f, cM.view.loc (c : Thread nD τ) ↦{fullShare} f) ∗ (∃ f, sM.view.loc (c : Thread nD τ) ↦{fullShare} f)
    ∗ (∃ f, aM.view.loc (c : Thread nD τ) ↦{fullShare} f))

set_option maxHeartbeats 1000000 in
/-- From its staged operands the body computes the quantised product and leaves every counter at zero. -/
theorem body_spec (c : Dev nD) (W : Waits sig Unit) (Q : PUnit → sProp 𝕄) :
    iprop(records m K ∗ levAts L lv ∗ owes (c : Thread nD τ) (owedL c payList) W ∗ creds c ∗ positions c ∗ payToks c ∗ scratch c
        ∗ (∃ f, oM.view.loc (c : Thread nD τ) ↦{fullShare} f) ∗ xPc m c fullShare ∗ wPc m c ∗ localSems c)
      ⊢ iprop((∀ r, iprop(owing c [] ∗ xPc m c fullShare ∗ wPc m c ∗ (oM.view.loc (c : Thread nD τ) ↦{fullShare} qF m c) ∗ scratch c
          ∗ cellsDone c ∗ localSems c) -∗ Q r)
        -∗ wp frame (wpE (defs₀ (F := F)) 𝒱₀ (c : Thread nD τ) none) Set.univ
            (cc0_body (F := F) xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10) Q) := by
  rw [body_eq]
  unfold creds positions payToks scratch
  iintro ⟨#HR, #Hlev, HO, ⟨C0, C1, C2, C3, C4, C5, C6, C7⟩, ⟨A0, A1, A2, A3, A4, A5, A6, A7, A8, A9, A10, A11, A12, A13, A14⟩,
    ⟨T01, T02, T03, T11, T32, T13, T34, T8, T9, T10, T11s, T15, T26, T37, T12, T13s, T14⟩, ⟨HC, HS, HA⟩, HD, HX, HW, Z10, Z11, Z12, Z13⟩ HQ
  iapply (wp_seq c _ _ _)
  iapply (stretch1_spec m K c W _) $$ [HO C0 C1 C2 C3 C4 A0 A1 A2 A3 A4 T01 T02 T03 T11 T32 T13 T34 T8 T9 T10 T11s HC HA HS HD HX HW Z12 Z13]
  · isplitr; · iexact HR
    isplitr; · iexact Hlev
    isplitl [HO]; · iexact HO
    isplitl [C0]; · iexact C0
    isplitl [C1]; · iexact C1
    isplitl [C2]; · iexact C2
    isplitl [C3]; · iexact C3
    isplitl [C4]; · iexact C4
    isplitl [A0]; · iexact A0
    isplitl [A1]; · iexact A1
    isplitl [A2]; · iexact A2
    isplitl [A3]; · iexact A3
    isplitl [A4]; · iexact A4
    isplitl [T01]; · iexact T01
    isplitl [T02]; · iexact T02
    isplitl [T03]; · iexact T03
    isplitl [T11]; · iexact T11
    isplitl [T32]; · iexact T32
    isplitl [T13]; · iexact T13
    isplitl [T34]; · iexact T34
    isplitl [T8]; · iexact T8
    isplitl [T9]; · iexact T9
    isplitl [T10]; · iexact T10
    isplitl [T11s]; · iexact T11s
    isplitl [HC]; · iexact HC
    isplitl [HA]; · iexact HA
    isplitl [HS]; · iexact HS
    isplitl [HD]; · iexact HD
    isplitl [HX]; · iexact HX
    isplitl [HW]; · iexact HW
    isplitl [Z12]; · iexact Z12
    iexact Z13
  iintro %r ⟨%e, HO, HP, HW, HD, HS, Z12, Z13⟩
  obtain ⟨d0, v2, mx⟩ := r
  obtain ⟨e1, e2⟩ := e
  dsimp only at e1 e2
  subst e1; subst e2
  iapply (wp_seq _ _ _ _)
  iapply (stretch2_spec m K _ v2 _) $$ [HO HP C5 C6 C7 A5 A6 A7 A8 A9 A10 A11 A12 A13 A14 T15 T26 T37 T12 T13s T14 HD HS Z10]
  · isplitr; · iexact HR
    isplitr; · iexact Hlev
    isplitl [HO]; · iexact HO
    isplitl [HP]; · iexact HP
    isplitl [C5]; · iexact C5
    isplitl [C6]; · iexact C6
    isplitl [C7]; · iexact C7
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [T15]; · iexact T15
    isplitl [T26]; · iexact T26
    isplitl [T37]; · iexact T37
    isplitl [T12]; · iexact T12
    isplitl [T13s]; · iexact T13s
    isplitl [T14]; · iexact T14
    isplitl [HD]; · iexact HD
    isplitl [HS]; · iexact HS
    iexact Z10
  iintro %r ⟨%e, HO, Hf, RR, HS1, HX, HC, HA, HZ⟩
  obtain ⟨sc, iv⟩ := r
  obtain ⟨e1, e2⟩ := e
  dsimp only at e1 e2
  subst e1; subst e2
  iapply (stretch3_spec m _ _) $$ [HO Hf RR HS1 Z11 Z12 Z13]
  · isplitr; · iexact Hlev
    isplitl [HO]; · iexact HO
    isplitl [Hf]; · iexact Hf
    isplitl [RR]; · iexact RR
    isplitl [HS1]; · iexact HS1
    isplitl [Z11]; · iexact Z11
    isplitl [Z12]; · iexact Z12
    iexact Z13
  iintro %r ⟨HO, HD, HS, HL⟩
  iapply HQ
  isplitl [HO]; · iexact HO
  isplitl [HX]; · iexact HX
  isplitl [HW]; · iexact HW
  isplitl [HD]; · iexact HD
  isplitl [HC HS HA]
  · isplitl [HC]; · iexact HC
    isplitl [HS]; · iexact HS
    iexact HA
  isplitl [HZ]; · iexact HZ
  iexact HL

end Cert.KProof
-- ==== Proof.Launch.lean ====
/-
The launch: what each of the four devices is dealt, and the run of the whole program.
-/
module

public import proofs.«01_k».proof.Proof.Whole
public import proofs.«01_k».proof.Proof.Gen.KernelIdeal.Points
public import Idealize.ShloMosaic.Lib.Pipeline.Quiescent

@[expose] public section

set_option maxRecDepth 16384

noncomputable section

namespace Cert.KProof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ
variable (m : (ℓ : Loc nD τ sig) → Buf (Elt F) ℓ)
variable (ρ : Dev nD → PrngReg)

/-! ## What the region runs from and to -/

/-- The kernel's own transfer counters: the fifteen of the exchange but the barrier, the four of the local copies, and two that
    no transfer of this device uses. -/
abbrev osem : Fin 20 → SemLoc sig :=
  fun i => .dma (⟨i.val + 2, (by have := i.isLt; exact Nat.lt_of_lt_of_le (Nat.add_lt_add_right this 2) (by decide))⟩ : DmaSem sig)

/-- The two that no transfer uses. -/
abbrev spare (c : Dev nD) : sProp 𝕄 :=
  iprop(semVal ((c : Thread nD τ), .dma (14 : DmaSem sig)) 0 ∗ semVal ((c : Thread nD τ), .dma (18 : DmaSem sig)) 0)

/-- What a device is dealt of the exchange. -/
def dealt (K : Dev nD × Fin 15 → ℕ) (c : Dev nD) : sProp 𝕄 :=
  iprop(records m K ∗ positions c ∗ payToks c ∗ localSems c ∗ spare c)

/-- Before the body, but for the scratch buffers. -/
def start (c : Dev nD) : sProp 𝕄 :=
  iprop((∃ K, dealt m K c) ∗ creds c ∗ levAts L lv ∗ ∃ f, oM.view.loc (c : Thread nD τ) ↦{fullShare} f)
def before (c : Dev nD) : sProp 𝕄 := iprop(start m c ∗ scratch c)
/-- After the body: every counter at zero, the result in place. -/
def afterBody (c : Dev nD) : sProp 𝕄 :=
  iprop(scratch c ∗ cellsDone c ∗ localSems c ∗ spare c ∗ oM.view.loc (c : Thread nD τ) ↦{fullShare} qF m c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
  Φ t := match t with
    | ⟨0, _⟩ => before m c
    | ⟨_ + 1, _⟩ => afterBody m c
  q _ := fullShare
  owed t := match t with
    | ⟨0, _⟩ => owedL c payList
    | ⟨_ + 1, _⟩ => 0

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(before m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(afterBody m c ∗ (dats m 0 c).owesAt () t0_0.succ ∗ stg c cc0_stg0_0 (xstg m c) ∗ stg c cc0_stg1_0 (wstg m c))

/-- The body, as the launch asks for it. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ (c : Thread nD τ) none) Set.univ
    (cc0_body (F := F) xM (Memref.isWhole_whole _) wM (Memref.isWhole_whole _) oM (Memref.isWhole_whole _) cM (Memref.isWhole_whole _) cc0_scratch1 cc0_scratch2 cc0_scratch3 cc0_scratch4 sM (Memref.isWhole_whole _) cc0_scratch6 cc0_scratch7 aM (Memref.isWhole_whole _) cc0_scratch9 cc0_scratch10)
    (fun _ => bodyPost m c)
  unfold bodyPre before start dealt
  iintro ⟨⟨⟨⟨%K, #HR, HP, HT, HL, HZ⟩, HC, #Hlev, HD⟩, HS⟩, Ho, ⟨%d0, %g0, %hg0, Hx⟩, ⟨%d1, %g1, %hg1, Hw⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx; subst hw
  unfold Dat.owesAt Pipeline.owesWithin
  icases Ho with ⟨%W, %hW, HO⟩
  iapply (body_spec m K c W _) $$ [HO HC HP HT HS HD Hx Hw HL]
  · isplitr; · iexact HR
    isplitr; · iexact Hlev
    isplitl [HO]; · iexact HO
    isplitl [HC]; · iexact HC
    isplitl [HP]; · iexact HP
    isplitl [HT]; · iexact HT
    isplitl [HS]; · iexact HS
    isplitl [HD]; · iexact HD
    isplitl [Hx]; · iexact Hx
    isplitl [Hw]; · iexact Hw
    iexact HL
  iintro %r ⟨⟨%W', HO⟩, Hx, Hw, HD, HS, HC, HL⟩
  unfold bodyPost afterBody Dat.owesAt Pipeline.owesWithin
  isplitl [HS HC HL HZ HD]
  · isplitl [HS]; · iexact HS
    isplitl [HC]; · iexact HC
    isplitl [HL]; · iexact HL
    isplitl [HZ]; · iexact HZ
    iexact HD
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hw

/-! ## Dealing the exchange -/

theorem ownSemFacts : Pipeline.OwnSemFacts cfg0.spec osem := by decide

theorem share_eq (c : Dev nD) (w : Fin cfg0.W) : (dats m 0 c).share w = fullShare := by unfold Dat.share; split <;> rfl

def allCells : Finset (GSem nD τ sig) := Finset.univ.map ⟨kcell, kcell_inj⟩

/-- The raises of one device's own fifteen counters: how many places before it the device that performs the raise stands, which
    counter, and which of the counter's raises. -/
def tokTab : Fin 17 → Fin 4 × Fin 15 × Fin 4 :=
  ![(1, 0, 1), (2, 0, 2), (3, 0, 3), (1, 1, 0), (3, 2, 0), (1, 3, 0), (3, 4, 0), (0, 8, 0), (0, 9, 0), (0, 10, 0), (0, 11, 0),
    (1, 5, 0), (2, 6, 0), (3, 7, 0), (0, 12, 0), (0, 13, 0), (0, 14, 0)]

theorem tokTab_inj : ∀ j j' : Fin 17, (tokTab j).2 = (tokTab j').2 → j = j' := by decide

abbrev tokOf (cj : Dev nD × Fin 17) : GSem nD τ sig × ℕ × Fin 4 := (kcell (cj.1, (tokTab cj.2).2.1), 0, (tokTab cj.2).2.2)
theorem tokOf_injective : Function.Injective tokOf := fun p q h => by
  obtain ⟨c, j⟩ := p; obtain ⟨c', j'⟩ := q
  have h1 := kcell_inj (congrArg Prod.fst h)
  have h2 : (tokTab j).2.2 = (tokTab j').2.2 := congrArg (fun x => x.2.2) h
  have h3 : (tokTab j).2.1 = (tokTab j').2.1 := congrArg Prod.snd h1
  rw [tokTab_inj j j' (Prod.ext h3 h2), show c = c' from congrArg Prod.fst h1]
def allToks : Finset (GSem nD τ sig × ℕ × Fin 4) := Finset.univ.map ⟨tokOf, tokOf_injective⟩

def u₀ : UU :=
  (initOf (Pipeline.cells cfgs cellOf_inj) (Pipeline.launchToks cfgs cellOf_inj), (Emb.inl : Emb UB (UB × Counters)) (initOf allCells allToks))

/-- The raises of a device's own counters. -/
def toks (c : Dev nD) : sProp 𝕄 := bigSep Finset.univ fun j : Fin 17 => dutyTok ER (tokOf (c, j)).1 (tokOf (c, j)).2.1 (tokOf (c, j)).2.2
/-- The raises a device performs, by the same table. -/
def pays (c : Dev nD) : sProp 𝕄 := bigSep Finset.univ fun j : Fin 17 => dutyTok ER (kcell (sh (tokTab j).1 c, (tokTab j).2.1)) 0 (tokTab j).2.2

def G (c : Dev nD) : sProp 𝕄 :=
  iprop((bigSep Finset.univ fun k : Fin 15 => roundState ER (rd m) (kcell (c, k)) 0)
    ∗ (bigSep Finset.univ fun k : Fin 15 => iprop(atPos ER (kcell (c, k)) 0 ∅ 0 ∗ reached ER (kcell (c, k)) 0)) ∗ toks c)

def G' (c : Dev nD) : sProp 𝕄 := iprop(∃ K, dealt m K c)

theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem bigSep_fin17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem pays_eq (c : Dev nD) : (pays c : sProp 𝕄) = payToks c := by
  have e : (kcell (sh 0 c, 8) : GSem nD τ sig) = kcell (c, 8) := by rw [sh_zero]
  have e9 : (kcell (sh 0 c, 9) : GSem nD τ sig) = kcell (c, 9) := by rw [sh_zero]
  have e10 : (kcell (sh 0 c, 10) : GSem nD τ sig) = kcell (c, 10) := by rw [sh_zero]
  have e11 : (kcell (sh 0 c, 11) : GSem nD τ sig) = kcell (c, 11) := by rw [sh_zero]
  have e12 : (kcell (sh 0 c, 12) : GSem nD τ sig) = kcell (c, 12) := by rw [sh_zero]
  have e13 : (kcell (sh 0 c, 13) : GSem nD τ sig) = kcell (c, 13) := by rw [sh_zero]
  have e14 : (kcell (sh 0 c, 14) : GSem nD τ sig) = kcell (c, 14) := by rw [sh_zero]
  unfold pays payToks
  rw [bigSep_fin17, ← e, ← e9, ← e10, ← e11, ← e12, ← e13, ← e14]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 15 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own transfer counters at zero, one by one. -/
theorem ownSems0_eq (c : Dev nD) : (Pipeline.ownSems0 (Ix := Unit) (Name := ℕ) (U := UU) (Lvl := ℕ) (Val := Elt F) (τ := τ) osem c : sProp 𝕄)
    = iprop(semVal (kcell (c, 8)) 0 ∗ semVal (kcell (c, 9)) 0 ∗ semVal (kcell (c, 1)) 0 ∗ semVal (kcell (c, 2)) 0
      ∗ semVal (kcell (c, 10)) 0 ∗ semVal (kcell (c, 11)) 0 ∗ semVal (kcell (c, 3)) 0 ∗ semVal (kcell (c, 4)) 0
      ∗ semVal ((c : Thread nD τ), .dma (10 : DmaSem sig)) 0 ∗ semVal ((c : Thread nD τ), .dma (11 : DmaSem sig)) 0
      ∗ semVal ((c : Thread nD τ), .dma (12 : DmaSem sig)) 0 ∗ semVal ((c : Thread nD τ), .dma (13 : DmaSem sig)) 0
      ∗ semVal ((c : Thread nD τ), .dma (14 : DmaSem sig)) 0
      ∗ semVal (kcell (c, 12)) 0 ∗ semVal (kcell (c, 13)) 0 ∗ semVal (kcell (c, 14)) 0
      ∗ semVal ((c : Thread nD τ), .dma (18 : DmaSem sig)) 0
      ∗ semVal (kcell (c, 5)) 0 ∗ semVal (kcell (c, 6)) 0 ∗ semVal (kcell (c, 7)) 0) := by
  rw [Pipeline.ownSems0_eq_of_list c osem [0, 1, 2, 3, 4, 5, 6, 7, 8, 9, 10, 11, 12, 13, 14, 15, 16, 17, 18, 19] (by decide) (by decide)]; rfl
/-- The barrier's counter is the one that outlives the kernel. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊣⊢ (iprop((bigSep Finset.univ fun k : Fin 15 => semVal (kcell (c, k)) 0) ∗ localSems c ∗ spare c) : sProp 𝕄) := by
  rw [ownSems0_eq, unscopedSems0_eq, bigSep_fin15]
  constructor
  · iintro ⟨⟨H8, H9, H1, H2, H10, H11, H3, H4, Z10, Z11, Z12, Z13, Z14, H12, H13, H14, Z18, H5, H6, H7⟩, H0⟩
    isplitl [H0 H1 H2 H3 H4 H5 H6 H7 H8 H9 H10 H11 H12 H13 H14]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [Z10 Z11 Z12 Z13]
    · isplitl [Z10]; · iexact Z10
      isplitl [Z11]; · iexact Z11
      isplitl [Z12]; · iexact Z12
      iexact Z13
    isplitl [Z14]; · iexact Z14
    iexact Z18
  · iintro ⟨⟨H0, H1, H2, H3, H4, H5, H6, H7, H8, H9, H10, H11, H12, H13, H14⟩, ⟨Z10, Z11, Z12, Z13⟩, Z14, Z18⟩
    isplitr [H0]
    · isplitl [H8]; · iexact H8
      isplitl [H9]; · iexact H9
      isplitl [H1]; · iexact H1
      isplitl [H2]; · iexact H2
      isplitl [H10]; · iexact H10
      isplitl [H11]; · iexact H11
      isplitl [H3]; · iexact H3
      isplitl [H4]; · iexact H4
      isplitl [Z10]; · iexact Z10
      isplitl [Z11]; · iexact Z11
      isplitl [Z12]; · iexact Z12
      isplitl [Z13]; · iexact Z13
      isplitl [Z14]; · iexact Z14
      isplitl [H12]; · iexact H12
      isplitl [H13]; · iexact H13
      isplitl [H14]; · iexact H14
      isplitl [Z18]; · iexact Z18
      isplitl [H5]; · iexact H5
      isplitl [H6]; · iexact H6
      iexact H7
    iexact H0

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ localSems c ∗ spare c) := by
  unfold G
  iintro ⟨Hos, Hus, Hst, Hat, Htok⟩
  ihave Hv := (sems0_split (F := F) c).1 $$ [Hos Hus]
  · isplitl [Hos] <;> iassumption
  icases Hv with ⟨Hv, HL, HZ⟩
  imod (show iprop((bigSep Finset.univ fun k : Fin 15 => semVal (kcell (c, k)) 0) ∗ bigSep Finset.univ fun k : Fin 15 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HL]; · iexact HL
  iexact HZ

/-- The same raises, dealt to the devices that perform them. -/
def around : Dev nD × Fin 17 ≃ Dev nD × Fin 17 where
  toFun p := (sh (tokTab p.2).1 p.1, p.2)
  invFun p := (sh (-(tokTab p.2).1) p.1, p.2)
  left_inv p := Prod.ext (sh_neg _ _) rfl
  right_inv p := Prod.ext (sh_neg' _ _) rfl

theorem toks_around : (bigSep Finset.univ fun c : Dev nD => (toks c : sProp 𝕄)) ⊢ bigSep Finset.univ fun c : Dev nD => payToks c := by
  have e : (bigSep Finset.univ fun c : Dev nD => (toks c : sProp 𝕄)) = bigSep Finset.univ fun c : Dev nD => pays c := by
    unfold toks pays
    rw [← bigSep_univ_prod (fun p : Dev nD × Fin 17 => (dutyTok ER (tokOf p).1 (tokOf p).2.1 (tokOf p).2.2 : sProp 𝕄)),
      bigSep_univ_equiv around, ← bigSep_univ_prod (fun p : Dev nD × Fin 17 => (dutyTok ER (kcell (sh (tokTab p.2).1 p.1, (tokTab p.2).2.1)) 0 (tokTab p.2).2.2 : sProp 𝕄))]
    rfl
  rw [e]
  exact bigSep_mono fun c _ => Entails.of_eq (pays_eq c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with a device of what it was dealt. -/
def linear (c : Dev nD) : sProp 𝕄 :=
  iprop((bigSep Finset.univ fun k : Fin 15 => atPos ER (kcell (c, k)) 0 ∅ 0) ∗ payToks c ∗ localSems c ∗ spare c)

theorem dealt_intro (K : Dev nD × Fin 15 → ℕ) (c : Dev nD) : iprop(records m K ∗ linear c) ⊢ G' m c := by
  unfold linear G' dealt positions
  rw [bigSep_fin15]
  iintro ⟨#HR, HP, HT, HL, HZ⟩
  iexists K
  isplitr; · iexact HR
  isplitl [HP]; · iexact HP
  isplitl [HT]; · iexact HT
  isplitl [HL]; · iexact HL
  iexact HZ

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ localSems c ∗ spare c) : sProp 𝕄)
      ⊢ bigSep Finset.univ (G' m) := by
  rw [bigSep_sep', bigSep_sep', bigSep_sep', ← bigSep_univ_prod (fun ck : Dev nD × Fin 15 => iprop(∃ κ : ℕ, cellInv ER (rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, HLZ⟩
  ihave HK := (BI.bigSep_exists_pi Finset.univ (fun (ck : Dev nD × Fin 15) (κ : ℕ) => (cellInv ER (rd m) κ (kcell ck) : sProp 𝕄))) $$ HI
  icases HK with ⟨%K, #HI⟩
  ihave Htk := (toks_around (F := F)) $$ Htok
  iapply (bigSep_with_persistent (R := records m K) fun c _ => dealt_intro m K c)
  isplitr
  · unfold records; isplitl; · iexact HI
    iexact HR
  · have e : (bigSep Finset.univ fun c : Dev nD => (linear c : sProp 𝕄))
        = iprop((bigSep Finset.univ fun c : Dev nD => bigSep Finset.univ fun k : Fin 15 => atPos ER (kcell (c, k)) 0 ∅ 0)
          ∗ (bigSep Finset.univ fun c : Dev nD => payToks c) ∗ bigSep Finset.univ fun c : Dev nD => iprop(localSems c ∗ spare c)) := by
      unfold linear; rw [bigSep_sep', bigSep_sep']
    iapply (Entails.of_eq e.symm)
    isplitl [Hat]; · iexact Hat
    isplitl [Htk]; · iexact Htk
    iexact HLZ

/-- Every device's counters at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The right to wait -/

/-- What a device owes one counter, read off the list of what it owes. -/
theorem owedL_apply (d c : Dev nD) (k : Fin 15) : ∀ l : List (Fin 4 × Fin 15),
    owedL d l (kcell (c, k)) () = (l.map fun p => if c = sh p.1 d ∧ k = p.2 then amt p.2 else 0).sum
  | [] => rfl
  | p :: l => by
    unfold owedL
    rw [Pi.add_apply, Finsupp.add_apply, owedL_apply d c k l, tallyAt_apply, List.map_cons, List.sum_cons, Nat.add_comm]
    congr 1
    by_cases h : c = sh p.1 d ∧ k = p.2
    · rw [if_pos h, if_pos ⟨by rw [h.1, h.2], rfl⟩]
    · rw [if_neg h, if_neg fun h' => h (by have := kcell_inj h'.1; exact ⟨congrArg Prod.fst this, congrArg Prod.snd this⟩)]

theorem owed_total : ∀ (k : Fin 8) (c : Dev nD),
    ∑ d : Dev nD, (payList.map fun p => if c = sh p.1 d ∧ (⟨k.val, by omega⟩ : Fin 15) = p.2 then amt p.2 else 0).sum = tot ⟨k.val, by omega⟩ := by
  decide +kernel

theorem launch_cell (c : Dev nD) (k : Fin 8) :
    tallyOn (kcell (c, ⟨k.val, by omega⟩)) (launchCredit (Pipeline.owing fun d => owedL d payList) 0 (kcell (c, ⟨k.val, by omega⟩)))
      = (tallyAt (kcell (c, ⟨k.val, by omega⟩)) () (tot ⟨k.val, by omega⟩) : CellTallies nD τ sig Unit) := by
  unfold tallyAt; refine congrArg _ (Finsupp.ext fun u => ?_); cases u
  rw [Pipeline.launchCredit_owing, Finsupp.single_eq_same, Finset.sum_congr rfl fun d _ => owedL_apply d c ⟨k.val, by omega⟩ payList]
  exact owed_total k c

theorem csem8_inj : Function.Injective fun k : Fin 8 => csem ⟨k.val, by omega⟩ := fun k k' h => by
  have := csem_inj h; exact Fin.ext (Fin.mk.inj_iff.mp this)

theorem creds_intro (c : Dev nD) : (Pipeline.launchCred (fun d => owedL d payList) c : sProp 𝕄) ⊢ creds c := by
  unfold Pipeline.launchCred creds
  refine (BI.bigSep_subset (Finset.subset_univ (Finset.univ.map (⟨fun k : Fin 8 => csem ⟨k.val, by omega⟩, csem8_inj⟩ : Fin 8 ↪ SemLoc sig)))).trans ?_
  rw [bigSep_map, bigSep_univ_eq_bigSepL [(0 : Fin 8), 1, 2, 3, 4, 5, 6, 7] (by decide) (by decide)]
  exact Entails.of_eq (show bigSepL [(0 : Fin 8), 1, 2, 3, 4, 5, 6, 7] (fun k : Fin 8 => (cred (tallyOn (kcell (c, ⟨k.val, by omega⟩)) (launchCredit (Pipeline.owing fun d => owedL d payList) 0 (kcell (c, ⟨k.val, by omega⟩)))) : sProp 𝕄))
    = bigSepL [(0 : Fin 8), 1, 2, 3, 4, 5, 6, 7] (fun k : Fin 8 => (cred (tallyAt (kcell (c, ⟨k.val, by omega⟩)) () (tot ⟨k.val, by omega⟩)) : sProp 𝕄)) from by
      congr 1; funext k; rw [launch_cell])

/-! ## The side conditions of the launch -/

theorem start_intro (c : Dev nD) :
    iprop(Pipeline.unscopedRestP Pipeline.Prefetch.none cfg0.spec c (fun b => m ((c : Thread nD τ).loc b)) ∗ levAts L lv
        ∗ Pipeline.launchCred (fun d => owedL d payList) c ∗ prngReg c (ρ c) ∗ G' m c)
      ⊢ |={Set.univ}=> iprop(start m c ∗ emp) := by
  rw [Pipeline.unscopedRestP_none, unscopedRest0_eq]
  iintro ⟨HD, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexists _; iexact HD
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs]; · iexact Hs
  iexact Hr

/-- The result, and the counters that outlive the kernel at zero. -/
def leaves (c : Dev nD) : sProp 𝕄 := iprop(unscopedSems0 c ∗ oM.view.loc (c : Thread nD τ) ↦{fullShare} qF m c)

theorem after_exit (c : Dev nD) :
    (dats m 0 c).Φ (Fin.last cfg0.N) ⊢ iprop(leaves m c ∗ Pipeline.ownSems0 osem c ∗ Pipeline.scopedRest cfg0.spec c) := by
  rw [show (dats m 0 c).Φ (Fin.last cfg0.N) = afterBody m c from rfl, scopedRest0_eq]
  unfold afterBody scratch cellsDone leaves
  iintro ⟨HS, HC, HL, HZ, HD⟩
  ihave H := (sems0_split (F := F) c).2 $$ [HC HL HZ]
  · isplitl [HC]; · iapply (Entails.of_eq (bigSep_fin15 (F := F) fun k => semVal (kcell (c, k)) 0).symm); iexact HC
    isplitl [HL]; · iexact HL
    iexact HZ
  icases H with ⟨Ho, Hu⟩
  isplitl [Hu HD]
  · isplitl [Hu]; · iexact Hu
    iexact HD
  isplitl [Ho]; · iexact Ho
  iexact HS

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_list c _ payList (by fin_cases w <;> fin_cases s <;> decide)
    · exact mayWait_list c _ [] (fun p hp => absurd hp List.not_mem_nil)

/-- What the memory holds once a device has finished. -/
def Left (c : Dev nD) (s : MemSt nD τ sig (Elt F)) : Prop :=
  (∀ sm : SemLoc sig, sm.isScoped .tc = false → s.sem ((c.tc : Thread nD τ), sm) = 0)
    ∧ s.mem (oM.view.loc (c : Thread nD τ)) = qF m c

theorem leaves_read (c : Dev nD) (s' : Phys nD τ sig (Elt F)) :
    iprop(leaves m c ∗ emp ∗ SI s') ⊢ |={Set.univ}=> (iprop(⌜Left m c s'.mem⌝ ∗ SI s') : sProp 𝕄) := by
  unfold leaves
  iintro ⟨⟨Hu, HD⟩, -, HSI⟩
  ihave H := (pointsTo_read_all ({()} : Finset Unit) (fun _ => oM.view.loc (c : Thread nD τ)) (fun _ => qF m c) s') $$ [HD HSI]
  · isplitl [HD]; · iapply (Entails.of_eq (bigSep_singleton (i := ()) (Φ := fun _ : Unit => (oM.view.loc (c : Thread nD τ) ↦{fullShare} qF m c : sProp 𝕄))).symm); iexact HD
    iexact HSI
  icases H with ⟨%h, HSI⟩
  ihave %h2 := (tcUnscoped_read c s') $$ [Hu HSI]
  · isplitl [Hu] <;> iassumption
  imodintro
  isplitr; · ipureintro; exact ⟨h2, h () (Finset.mem_singleton_self _)⟩
  iexact HSI

/-! ## The run -/

/-- What a finished run leaves: on every device the operands as they were and the result quantised, and every counter at zero. -/
def Finished (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = qF m c) ∧ r.2.sem = fun _ => 0

/-- From any memory with every counter at zero, every fair execution of the program on the four devices ends, and ends `Finished`. -/
theorem run_main : θ_run defs (onTc (τ := τ) (main (F := F))) ⟨m, fun _ => 0, ρ⟩ (Finished m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owedL d payList) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := leaves m) (Z := fun _ => iprop(emp))
    (hX := start_intro m ρ) (hin := before_intro m) (hout := after_exit m)
    (QY := Left m) (hY := leaves_read m)
    (hQ := fun _ h hs => ⟨fun c => ⟨((h c).1 (0 : Fin 2)).trans ((dats (F := F) m 0 c).arrAt_in (0 : Fin 2) rfl _),
      ((h c).1 (1 : Fin 2)).trans ((dats (F := F) m 0 c).arrAt_in (1 : Fin 2) rfl _), (h c).2.2.2⟩, sem_eq_zero hs fun c => (h c).2.2.1⟩)

end Cert.KProof
-- ==== Proof.Scaling.lean ====
/-
Two ways to quantise a number, over the extended reals, give the same.

With `g` at least the number's magnitude, one multiplies by `127 / g`, rounds and multiplies by `g / 127`; the other divides by
`g / 127`, rounds, clips to `[-127, 127]` and multiplies by `g / 127`. At `g = 0` and at `g = ⊤` both give zero. Elsewhere they
round one number, which lies between the bounds.
-/
module

public import Idealize.ShloMosaic.PureOps.Ideal.Laws

@[expose] public section

noncomputable section

namespace Cert.KValue

open Idealize.ShloMosaic

/-- The pattern of 127. -/
theorem ofBits_bound : Ideal.ofBits .f32 0x42FE0000#32 = ((127 : ℝ) : EReal) := by
  simp [Ideal.ofBits, Ideal.ieee]; norm_num; rw [← EReal.coe_mul]; norm_num

/-- The pattern of -127. -/
theorem ofBits_negBound : Ideal.ofBits .f32 0xC2FE0000#32 = ((-127 : ℝ) : EReal) := by
  simp [Ideal.ofBits, Ideal.ieee]; norm_num; rw [← EReal.coe_mul]; norm_num

/-- The pattern of minus infinity. -/
theorem ofBits_bot : Ideal.ofBits .f32 0xFF800000#32 = ⊥ := by simp [Ideal.ofBits, Ideal.ieee]

/-- The pattern of zero. -/
theorem ofBits_zero : Ideal.ofBits .f32 0x0#32 = 0 := by simp [Ideal.ofBits, Ideal.ieee]

/-- A magnitude is not negative. -/
theorem abs_nonneg' (y : EReal) : 0 ≤ max y (-y) := by
  rcases le_total 0 y with h | h
  · exact le_max_of_le_left h
  · exact le_max_of_le_right (EReal.neg_nonneg.mpr h)

/-- Rounding keeps a number between whole bounds. -/
theorem round_bounds {t : ℝ} {n : ℤ} (h1 : -(n : ℝ) ≤ t) (h2 : t ≤ n) : -n ≤ Ideal.roundHalfEven t ∧ Ideal.roundHalfEven t ≤ n := by
  have f1 : -n ≤ ⌊t⌋ := Int.le_floor.mpr (by push_cast; exact h1)
  have f2 : ⌊t⌋ ≤ n := Int.cast_le.mp ((Int.floor_le t).trans h2)
  have f3 : ¬ t - ⌊t⌋ < 1 / 2 → ⌊t⌋ + 1 ≤ n := fun h => by
    rcases f2.lt_or_eq with h' | h'
    · omega
    · exact absurd (show t - ⌊t⌋ < 1 / 2 by rw [h']; linarith) h
  unfold Ideal.roundHalfEven
  dsimp only
  split_ifs with a b c
  · exact ⟨f1, f2⟩
  · exact ⟨by omega, f3 a⟩
  · exact ⟨f1, f2⟩
  · exact ⟨by omega, f3 a⟩

/-- Both ways of quantising agree. -/
theorem quant_eq (y g : EReal) (h : max y (-y) ≤ g) :
    Ideal.liftRound Ideal.roundHalfEven (y * Ideal.div ((127 : ℝ) : EReal) g) * Ideal.div g ((127 : ℝ) : EReal)
      = min ((127 : ℝ) : EReal) (max ((-127 : ℝ) : EReal) (Ideal.liftRound Ideal.roundHalfEven (Ideal.div y (Ideal.div g ((127 : ℝ) : EReal)))))
        * Ideal.div g ((127 : ℝ) : EReal) := by
  have hc : ((127 : ℝ) : EReal) ≠ 0 := by exact_mod_cast (by norm_num : (127 : ℝ) ≠ 0)
  have hg : 0 ≤ g := (abs_nonneg' y).trans h
  have hd : Ideal.div g ((127 : ℝ) : EReal) = g * ((127 : ℝ) : EReal)⁻¹ := by unfold Ideal.div; rw [if_neg hc]
  have r0 : Ideal.liftRound Ideal.roundHalfEven 0 = 0 := by
    show (((Ideal.roundHalfEven 0 : ℤ) : ℝ) : EReal) = 0
    simp [Ideal.roundHalfEven]
  induction g with
  | bot => exact absurd hg (by simp)
  | top =>
    have e1 : Ideal.div ((127 : ℝ) : EReal) ⊤ = 0 := by unfold Ideal.div; rw [if_neg (by simp)]; simp
    have e2 : Ideal.div (⊤ : EReal) ((127 : ℝ) : EReal) = ⊤ := by
      rw [hd, ← EReal.coe_inv]; exact EReal.top_mul_coe_of_pos (by norm_num)
    have e3 : Ideal.div y ⊤ = 0 := by unfold Ideal.div; rw [if_neg (by simp)]; simp
    rw [e1, e2, e3, mul_zero, r0]
    have c1 : max ((-127 : ℝ) : EReal) 0 = 0 := max_eq_right (by exact_mod_cast (by norm_num : (-127 : ℝ) ≤ 0))
    have c2 : min ((127 : ℝ) : EReal) 0 = 0 := min_eq_right (by exact_mod_cast (by norm_num : (0 : ℝ) ≤ 127))
    rw [c1, c2]
  | coe r =>
    rcases eq_or_ne r 0 with rfl | hr
    · rw [hd]; simp
    · have hr0 : 0 < r := lt_of_le_of_ne (by exact_mod_cast hg) (Ne.symm hr)
      have hyr : y ≤ (r : EReal) := (le_max_left _ _).trans h
      have hny : -y ≤ (r : EReal) := (le_max_right _ _).trans h
      induction y with
      | bot => simp at hny
      | top => simp at hyr
      | coe s =>
        have s1 : s ≤ r := by exact_mod_cast hyr
        have s2 : -s ≤ r := by exact_mod_cast hny
        have d1 : Ideal.div (r : EReal) ((127 : ℝ) : EReal) = ((r / 127 : ℝ) : EReal) := by
          rw [hd, ← EReal.coe_inv, ← EReal.coe_mul, div_eq_mul_inv]
        have d2 : Ideal.div ((127 : ℝ) : EReal) (r : EReal) = ((127 / r : ℝ) : EReal) := by
          unfold Ideal.div; rw [if_neg (by exact_mod_cast hr), ← EReal.coe_inv, ← EReal.coe_mul, div_eq_mul_inv]
        have d3 : Ideal.div (s : EReal) ((r / 127 : ℝ) : EReal) = ((s * (127 / r) : ℝ) : EReal) := by
          have hn : r / 127 ≠ 0 := by positivity
          unfold Ideal.div; rw [if_neg (by exact_mod_cast hn), ← EReal.coe_inv, ← EReal.coe_mul]
          congr 2; field_simp
        rw [d1, d2, d3, ← EReal.coe_mul]
        have b := round_bounds (t := s * (127 / r)) (n := 127)
          (by push_cast; rw [← mul_div_assoc, le_div_iff₀ hr0]; linarith) (by push_cast; rw [← mul_div_assoc, div_le_iff₀ hr0]; linarith)
        have q1 : (-127 : ℝ) ≤ (Ideal.roundHalfEven (s * (127 / r)) : ℝ) := by exact_mod_cast b.1
        have q2 : (Ideal.roundHalfEven (s * (127 / r)) : ℝ) ≤ 127 := by exact_mod_cast b.2
        have c1 : max ((-127 : ℝ) : EReal) (Ideal.liftRound Ideal.roundHalfEven ((s * (127 / r) : ℝ) : EReal))
            = Ideal.liftRound Ideal.roundHalfEven ((s * (127 / r) : ℝ) : EReal) := max_eq_right (EReal.coe_le_coe_iff.mpr q1)
        have c2 : min ((127 : ℝ) : EReal) (Ideal.liftRound Ideal.roundHalfEven ((s * (127 / r) : ℝ) : EReal))
            = Ideal.liftRound Ideal.roundHalfEven ((s * (127 / r) : ℝ) : EReal) := min_eq_right (EReal.coe_le_coe_iff.mpr q2)
        rw [c1, c2]

end Cert.KValue
-- ==== Proof.Largest.lean ====
/-
The largest magnitude, over the extended reals: a number bounds what the kernel finds exactly when it bounds every entry of the
product, on every device.
-/
module

public import proofs.«01_k».proof.Proof.Contents
public import proofs.«01_k».proof.Proof.Scaling

@[expose] public section

set_option maxRecDepth 16384

noncomputable section

namespace Cert.KValue

open Cert.KProof Cert.KernelIdeal Cert.KernelIdeal.Gen
open Idealize.ShloMosaic Idealize.ShloMosaic.TcCoe Idealize.ShloMosaic.ValueIdx

variable (m : (ℓ : Loc nD τ sig) → Buf (Elt Ideal) ℓ)

/-- The reduced shape has one entry. -/
theorem one_deep : ∀ a, S1.size a = 1 := by decide

/-- A bound of a maximum over two axes of a one-deep block is a bound of every entry. -/
theorem reduce_le {s : Shape} {axes : List (Fin s.rank)} (x : FVec Ideal s .f32) (h : s.Reduces axes S1) (hφ : FKind.Formats .f32)
    (hacc : 0xFF800000#32 = FKind.maximumf.neutral .f32 hφ) (j : S1.Idx) (B : EReal) :
    multiReduction .maximumf axes S1 x 0xFF800000#32 h hφ hacc j ≤ B ↔ ∀ i, x i ≤ B := by
  rw [multiReduction_maximumf_eq_fold]
  refine (Finset.fold_max_le (f := x) B).trans ⟨fun q i => q.2 i (Finset.mem_filter.mpr ⟨Finset.mem_univ _, ?_⟩), fun q => ⟨?_, fun i _ => q i⟩⟩
  · exact funext fun a => Fin.ext (by
      have h1 : (h.drop i a).val < S1.size a := (h.drop i a).isLt
      have h2 : (j a).val < S1.size a := (j a).isLt
      have h3 : S1.size a = 1 := one_deep a
      omega)
  · show Ideal.ofBits .f32 0xFF800000#32 ≤ B
    rw [ofBits_bot]; exact bot_le

/-- A bound of every entry of a block bounds every entry of its reshape, and back. -/
theorem cast_le {s t : Shape} (x : FVec Ideal s .f32) (h : s.ShapeCasts t) (B : EReal) : (∀ i, shapeCast t x h i ≤ B) ↔ ∀ i, x i ≤ B :=
  (Shape.reshapeEquiv h).forall_congr_left.trans (forall_congr' fun i => by show x _ ≤ B ↔ _; rw [Equiv.apply_symm_apply])

/-- What bounds the largest magnitude of a tile. -/
theorem tileMax_le (t : FVec Ideal S512x1024 .f32) (B : EReal) : (tileMax t : EReal) ≤ B ↔ ∀ i, max (t i) (-(t i)) ≤ B :=
  have e : ∀ i, (absf t i : EReal) = max (t i) (-(t i)) := fun _ => rfl
  have q := (reduce_le (shapeCast S1x512x1024 (absf t) shapeCasts_S512x1024_S1x512x1024) reduces_S1x512x1024_S1 (.inl rfl) rfl
    (Shape.reshapeEquiv shapeCasts_S1_S1x1x1 fun a => ⟨![0, 0, 0] a, inpos_S1x1x1_p0_0_0 a⟩) B).trans (cast_le (absf t) _ B)
  (show (tileMax t : EReal) ≤ B ↔ _ from q).trans (forall_congr' fun i => by rw [e])

/-- What bounds the maximum over the four devices' maxima. -/
theorem joint_le (a : FVec Ideal S4x128 .f32) (B : EReal) : (k0_pay42 (F := Ideal) a : EReal) ≤ B ↔ ∀ i, a i ≤ B :=
  (reduce_le _ reduces_S1x4x128_S1 (.inl rfl) rfl _ B).trans (cast_le a _ B)

/-- What bounds a scalar maximum. -/
theorem smax_le (x y : Ideal .f32) (B : EReal) : (Scalar.maximumf (F := Ideal) x y : EReal) ≤ B ↔ x ≤ B ∧ y ≤ B :=
  max_le_iff (a := x) (b := y) (c := B)

/-- What bounds the running maximum after the tiles of one device's rows. -/
theorem blockMax_le (d c : Dev nD) (v : Ideal .f32) (B : EReal) :
    (blockMax m d c v : EReal) ≤ B ↔ v ≤ B ∧ ∀ b h i, max (tile m d c b h i) (-(tile m d c b h i)) ≤ B := by
  unfold blockMax
  rw [smax_le, smax_le, smax_le, smax_le, Fin.forall_fin_two, Fin.forall_fin_two, Fin.forall_fin_two, tileMax_le, tileMax_le, tileMax_le, tileMax_le]
  rw [and_assoc, and_assoc, and_assoc, and_assoc]

/-- Every device is at one of the four places. -/
theorem places : ∀ c d : Dev nD, d = sh 2 c ∨ d = sh 1 c ∨ d = sh 3 c ∨ d = c := by decide

/-- The four places on the ring are all the devices. -/
theorem ring_all {P : Dev nD → Prop} (c : Dev nD) : (∀ d, P d) ↔ P (sh 2 c) ∧ P (sh 1 c) ∧ P (sh 3 c) ∧ P c := by
  refine ⟨fun h => ⟨h _, h _, h _, h _⟩, fun h d => ?_⟩
  have : d = sh 2 c ∨ d = sh 1 c ∨ d = sh 3 c ∨ d = c := places c d
  rcases this with rfl | rfl | rfl | rfl
  · exact h.1
  · exact h.2.1
  · exact h.2.2.1
  · exact h.2.2.2

/-- What bounds the maximum that a device finds. -/
theorem mxF_le (c : Dev nD) (B : EReal) :
    (mxF m c : EReal) ≤ B ↔ 0 ≤ B ∧ ∀ d b h i, max (tile m d c b h i) (-(tile m d c b h i)) ≤ B := by
  unfold mxF
  rw [blockMax_le, blockMax_le, blockMax_le, blockMax_le, ring_all c]
  have e : (Scalar.ofBits .f32 0x0#32 : Ideal .f32) = 0 := ofBits_zero
  rw [e]
  tauto

/-- Every entry of a tile is an entry of the product, and back. -/
theorem entries (c : Dev nD) (P : EReal → Prop) : (∀ d b h i, P (tile m d c b h i)) ↔ ∀ i, P (yF m c i) := by
  refine ⟨fun q i => q _ _ _ _, fun q d b h i => ?_⟩
  have h0 : (i 0).val < 512 := (i 0).isLt
  have h1 : (i 1).val < 1024 := (i 1).isLt
  have hd : d.val < 4 := d.isLt
  have hb : b.val < 2 := b.isLt
  have hh : h.val < 2 := h.isLt
  have e := q (ix2 (⟨1024 * d.val + 512 * b.val + (i 0).val, by omega⟩ : Fin 4096) (⟨1024 * h.val + (i 1).val, by omega⟩ : Fin 2048))
  have e1 : (⟨(1024 * d.val + 512 * b.val + (i 0).val) / 1024, by omega⟩ : Dev nD) = d := Fin.ext (by show _ / 1024 = _; omega)
  have e2 : (⟨(1024 * d.val + 512 * b.val + (i 0).val) / 512 % 2, by omega⟩ : Fin 2) = b := Fin.ext (by show _ / 512 % 2 = _; omega)
  have e3 : (⟨(1024 * h.val + (i 1).val) / 1024, by omega⟩ : Fin 2) = h := Fin.ext (by show _ / 1024 = _; omega)
  have e4 : (ix2 (⟨(1024 * d.val + 512 * b.val + (i 0).val) % 512, by omega⟩ : Fin 512) (⟨(1024 * h.val + (i 1).val) % 1024, by omega⟩ : Fin 1024) : S512x1024.Idx) = i := by
    funext a
    match a with
    | ⟨0, _⟩ => exact Fin.ext (by show _ % 512 = (i 0).val; omega)
    | ⟨1, _⟩ => exact Fin.ext (by show _ % 1024 = (i 1).val; omega)
  change P (tile m (⟨(1024 * d.val + 512 * b.val + (i 0).val) / 1024, by omega⟩ : Dev nD) c (⟨(1024 * d.val + 512 * b.val + (i 0).val) / 512 % 2, by omega⟩ : Fin 2)
    (⟨(1024 * h.val + (i 1).val) / 1024, by omega⟩ : Fin 2) (ix2 (⟨(1024 * d.val + 512 * b.val + (i 0).val) % 512, by omega⟩ : Fin 512) (⟨(1024 * h.val + (i 1).val) % 1024, by omega⟩ : Fin 1024) : S512x1024.Idx)) at e
  rw [e1, e2, e3, e4] at e
  exact e

/-- What bounds the largest magnitude on any device. -/
theorem largest_le (B : EReal) : (k0_pay42 (amaxF m) : EReal) ≤ B ↔ ∀ c i, max (yF m c i) (-(yF m c i)) ≤ B := by
  rw [joint_le]
  refine ⟨fun q c => ?_, fun q i => (mxF_le m _ B).mpr ⟨?_, (entries m _ fun t => max t (-t) ≤ B).mpr (q _)⟩⟩
  · exact (entries m c fun t => max t (-t) ≤ B).mp ((mxF_le m c B).mp (q (ix2 c (0 : Fin 128)))).2
  · exact (abs_nonneg' _).trans (q 0 (ix2 (0 : Fin 4096) (0 : Fin 2048)))

end Cert.KValue
-- ==== Proof.Meaning.lean ====
/-
The kernel's result is the reference's, over the extended reals.

An entry of the product is one sum on both sides: the row of `x` is some device's, the column of `w` is the own device's. So the
largest magnitude is one number on both sides, and each entry is quantised alike.
-/
module

public import proofs.«01_k».proof.Proof.Largest
public import proofs.«01_k».proof.Proof.Gen.ReferenceIdeal.Run
public import Idealize.ShloMosaic.Lib.MatmulPlain
public import Idealize.ShloMosaic.Lib.IdealHost
public import Idealize.ShloMosaic.Lib.Layout
public import Idealize.ShloMosaic.Lib.Pipeline.ValueKit.Geometry

@[expose] public section

set_option maxRecDepth 16384

noncomputable section

namespace Cert.KValue

open Cert.KProof Cert.KernelIdeal Cert.KernelIdeal.Gen
open Idealize.ShloMosaic Idealize.ShloMosaic.TcCoe Idealize.ShloMosaic.ValueIdx
open scoped BigOperators

/-! ## The reference's value -/

abbrev RX : Shape := ⟨2, ![4096, 4096]⟩
abbrev RW : Shape := ⟨2, ![4096, 8192]⟩

variable (X : FVec Ideal RX .bf16) (W : FVec Ideal RW .bf16)

/-- The reference's product. -/
def refY : FVec Ideal RW .f32 := Host.dotGeneral Cert.ReferenceIdeal.dot_S4096x4096_S4096x8192_S4096x8192_1_0_0_1_n_n none X W

/-- An entry of the reference's product. -/
theorem refY_at (r : Fin 4096) (c : Fin 8192) : refY X W (ix2 r c) = ∑ k : Fin 4096, X (ix2 r k) * W (ix2 k c) :=
  (Ideal.matmul_plain_apply (M := 4096) (K := 4096) (N := 8192) none X W (fun _ => 0) r c).trans (zero_add _)

/-! ## The kernel's product -/

/-- An entry of a tile. -/
theorem gemm_at (a : FVec Ideal S512x4096 .bf16) (b : FVec Ideal S4096x1024 .bf16) (r : Fin 512) (c : Fin 1024) :
    gemm a b (ix2 r c) = ∑ k : Fin 4096, a (ix2 r k) * b (ix2 k c) := by
  refine (Ideal.matmul_plain_apply (M := 512) (K := 4096) (N := 1024) none a b (constant S512x1024 .f32 0x0#32) r c).trans ?_
  rw [show (constant S512x1024 .f32 0x0#32 : FVec Ideal S512x1024 .f32) (ix2 r c) = 0 from ofBits_zero, zero_add]

variable (m : (ℓ : Loc nD τ sig) → Buf (Elt Ideal) ℓ)

/-- The launch stages the whole of the rows. -/
theorem xstg_at (c : Dev nD) (i : S1024x4096.Idx) : xstg m c i = m ((c : Thread nD τ).loc main_arg0) i :=
  congrArg (m ((c : Thread nD τ).loc main_arg0)) (funext fun a => Fin.ext (by
    have e : ∀ a, win0_0.index (0 : Fin 1) a = 0 := fun _ => rfl
    match a with
    | ⟨0, _⟩ => blk_simp [e]
    | ⟨1, _⟩ => blk_simp [e]))

/-- And the whole of the columns. -/
theorem wstg_at (c : Dev nD) (i : S4096x2048.Idx) : wstg m c i = m ((c : Thread nD τ).loc main_arg1) i :=
  congrArg (m ((c : Thread nD τ).loc main_arg1)) (funext fun a => Fin.ext (by
    have e : ∀ a, win0_1.index (0 : Fin 1) a = 0 := fun _ => rfl
    match a with
    | ⟨0, _⟩ => blk_simp [e]
    | ⟨1, _⟩ => blk_simp [e]))

/-- Column `j` of device `c`, in the whole array. -/
def colOf (c : Dev nD) (j : Fin 2048) : Fin 8192 := ⟨2048 * c.val + j.val, by have := c.isLt; have h : c.val < 4 := c.isLt; omega⟩

/-- The operands are blocks of the whole arrays. -/
def Split : Prop := ∀ c : Dev nD,
  m ((c : Thread nD τ).loc main_arg0) = Layout.block ⟨2, ![1024, 4096]⟩ ⟨2, ![4096, 4096]⟩ 0 4 c X
    ∧ m ((c : Thread nD τ).loc main_arg1) = Layout.block ⟨2, ![4096, 2048]⟩ ⟨2, ![4096, 8192]⟩ 1 4 c W

variable {X W} {m}

/-- A device's entry of `x` in the whole array. -/
theorem x_entry (hs : Split X W m) (d : Dev nD) (p : Fin 1024) (k : Fin 4096) (r : Fin 4096) (hr : r.val = 1024 * d.val + p.val) :
    xstg m d (ix2 p k) = X (ix2 r k) := by
  rw [xstg_at, (hs d).1, Layout.block_apply]
  refine congrArg X (funext fun a => Fin.ext ?_)
  match a with
  | ⟨0, _⟩ => exact (show d.val * 1024 + p.val = r.val by omega)
  | ⟨1, _⟩ => rfl

/-- A device's entry of `w` in the whole array. -/
theorem w_entry (hs : Split X W m) (c : Dev nD) (k : Fin 4096) (q : Fin 2048) : wstg m c (ix2 k q) = W (ix2 k (colOf c q)) := by
  rw [wstg_at, (hs c).2, Layout.block_apply]
  refine congrArg W (funext fun a => Fin.ext ?_)
  match a with
  | ⟨0, _⟩ => rfl
  | ⟨1, _⟩ => exact (show c.val * 2048 + q.val = 2048 * c.val + q.val by omega)

/-- An entry of device `c`'s product is the reference's. -/
theorem yF_at (hs : Split X W m) (c : Dev nD) (r : Fin 4096) (q : Fin 2048) : yF m c (ix2 r q) = refY X W (ix2 r (colOf c q)) := by
  rw [refY_at]
  refine (gemm_at _ _ _ _).trans (Finset.sum_congr rfl fun k _ => ?_)
  have hr : r.val < 4096 := r.isLt
  have hq : q.val < 2048 := q.isLt
  have ea : ∀ z : Fin 1024, z.val = r.val % 1024 →
      xstg m (⟨r.val / 1024, by show _ < 4; omega⟩ : Dev nD) (ix2 z k) = X (ix2 r k) := fun z hz =>
    x_entry hs _ z k r (by show _ = 1024 * (r.val / 1024) + z.val; omega)
  have eb : ∀ z : Fin 2048, z.val = q.val → wstg m c (ix2 k z) = W (ix2 k (colOf c q)) := fun z hz =>
    (congrArg (fun z => wstg m c (ix2 k z)) (Fin.ext hz)).trans (w_entry hs c k q)
  exact congrArg₂ (· * ·) (ea ⟨512 * (r.val / 512 % 2) + r.val % 512, by omega⟩ (by show 512 * _ + _ = _; omega))
    (eb ⟨1024 * (q.val / 1024) + q.val % 1024, by omega⟩ (by show 1024 * _ + _ = _; omega))

/-- The same at an index. -/
theorem yF_at' (hs : Split X W m) (c : Dev nD) (i : S4096x2048.Idx) : yF m c i = refY X W (ix2 (i 0 : Fin 4096) (colOf c (i 1))) :=
  (congrArg (yF m c) (funext fun a => by match a with | ⟨0, _⟩ => rfl | ⟨1, _⟩ => rfl)).trans (yF_at hs c (i 0) (i 1))

/-! ## The largest magnitude -/

variable (X W)

/-- The reference's largest magnitude. -/
def refMax : FVec Ideal Cert.ReferenceIdeal.S_ .f32 :=
  Host.reduce FloatOps.maximumf (Host.absf (refY X W)) (constant Cert.ReferenceIdeal.S_ .f32 0xFF800000#32) Cert.ReferenceIdeal.Facts₀.reducesTo_S4096x8192_S_d0_1 Cert.ReferenceIdeal.Facts₀.h_S_

/-- What bounds it. -/
theorem refMax_le (j : Cert.ReferenceIdeal.S_.Idx) (B : EReal) : (refMax X W j : EReal) ≤ B ↔ ∀ i, max (refY X W i) (-(refY X W i)) ≤ B := by
  unfold refMax
  rw [Host.reduce_eq_fold]
  refine (Finset.fold_max_le (f := Host.absf (refY X W)) B).trans ⟨fun q i => q.2 i (Finset.mem_filter.mpr ⟨Finset.mem_univ _, funext fun a => a.elim0⟩), fun q => ⟨?_, fun i _ => q i⟩⟩
  show Ideal.ofBits .f32 0xFF800000#32 ≤ B
  rw [ofBits_bot]; exact bot_le

variable {X W}

/-- The two largest magnitudes are one number. -/
theorem max_eq (hs : Split X W m) (j : Cert.ReferenceIdeal.S_.Idx) : (k0_pay42 (amaxF m) : EReal) = refMax X W j := by
  refine eq_of_forall_ge_iff fun B => (largest_le m B).trans (Iff.trans ⟨fun h i => ?_, fun h c i => ?_⟩ (refMax_le X W j B).symm)
  · have hi : (i 1).val < 8192 := (i 1).isLt
    have y := yF_at hs (⟨(i 1).val / 2048, by show _ < 4; omega⟩ : Dev nD) (i 0 : Fin 4096) (⟨(i 1).val % 2048, by omega⟩ : Fin 2048)
    have ei : (ix2 (i 0 : Fin 4096) (colOf (⟨(i 1).val / 2048, by show _ < 4; omega⟩ : Dev nD) (⟨(i 1).val % 2048, by omega⟩ : Fin 2048)) : RW.Idx) = i := by
      funext a
      match a with
      | ⟨0, _⟩ => rfl
      | ⟨1, _⟩ => exact Fin.ext (by show 2048 * ((i 1).val / 2048) + (i 1).val % 2048 = (i 1).val; omega)
    rw [← y.trans (congrArg (refY X W) ei)]
    exact h _ _
  · rw [yF_at' hs c i]
    exact h _

/-! ## The result -/

variable (X W)

/-- The reference's scale. -/
def refScale : FVec Ideal Cert.ReferenceIdeal.S_ .f32 := Host.divf (refMax X W) (constant Cert.ReferenceIdeal.S_ .f32 0x42FE0000#32)

/-- The reference's result. -/
def refOut : FVec Ideal RW .f32 :=
  mulf (minimumf (broadcastInDim Cert.ReferenceIdeal.S4096x8192 ![] Cert.ReferenceIdeal.Facts₀.bcast_S_S4096x8192 (id (constant Cert.ReferenceIdeal.S_ .f32 0x42FE0000#32))) (maximumf (broadcastInDim Cert.ReferenceIdeal.S4096x8192 ![] Cert.ReferenceIdeal.Facts₀.bcast_S_S4096x8192 (id (constant Cert.ReferenceIdeal.S_ .f32 0xC2FE0000#32))) (Host.roundeven (Host.divf (refY X W) (broadcastInDim Cert.ReferenceIdeal.S4096x8192 ![] Cert.ReferenceIdeal.Facts₀.bcast_S_S4096x8192 (refScale X W)))))) (broadcastInDim Cert.ReferenceIdeal.S4096x8192 ![] Cert.ReferenceIdeal.Facts₀.bcast_S_S4096x8192 (refScale X W))

variable {X W}

/-- The kernel's quantiser. -/
theorem quant_at (s v y : Ideal .f32) : quant s v y = Ideal.liftRound Ideal.roundHalfEven (y * v) * s := rfl

/-- A scalar quotient. -/
theorem sdiv_at (x y : Ideal .f32) : Scalar.divf (F := Ideal) x y = Ideal.div x y := rfl

/-- A scalar pattern. -/
theorem sbits_at (b : BitVec 32) : Scalar.ofBits (F := Ideal) .f32 b = Ideal.ofBits .f32 b := rfl

/-- The kernel's scale. -/
theorem scale_at (a : FVec Ideal S4x128 .f32) : k0_pay43 (F := Ideal) a = Ideal.div (k0_pay42 (F := Ideal) a) (Ideal.ofBits .f32 0x42FE0000#32) := rfl

/-- The kernel's inverse scale. -/
theorem inverse_at (a : FVec Ideal S4x128 .f32) : k0_pay44 (F := Ideal) a = Ideal.div (Ideal.ofBits .f32 0x42FE0000#32) (k0_pay42 (F := Ideal) a) := by
  unfold k0_pay44
  dsimp only
  rw [sdiv_at, sbits_at]

/-- An entry of the reference's scale. -/
theorem refScale_at (j : Cert.ReferenceIdeal.S_.Idx) : refScale X W j = Ideal.div (refMax X W j) (Ideal.ofBits .f32 0x42FE0000#32) := rfl

/-- The reference's quantiser, over any product and scale. -/
theorem refQuant_at (lo hi S : FVec Ideal Cert.ReferenceIdeal.S_ .f32) (Y : FVec Ideal RW .f32) (j : RW.Idx) :
    mulf (minimumf (broadcastInDim RW ![] Cert.ReferenceIdeal.Facts₀.bcast_S_S4096x8192 hi) (maximumf (broadcastInDim RW ![] Cert.ReferenceIdeal.Facts₀.bcast_S_S4096x8192 lo)
        (Host.roundeven (Host.divf Y (broadcastInDim RW ![] Cert.ReferenceIdeal.Facts₀.bcast_S_S4096x8192 S))))) (broadcastInDim RW ![] Cert.ReferenceIdeal.Facts₀.bcast_S_S4096x8192 S) j
      = min (hi ix0) (max (lo ix0) (Ideal.liftRound Ideal.roundHalfEven (Ideal.div (Y j) (S ix0)))) * S ix0 := by
  have b : ∀ x : FVec Ideal Cert.ReferenceIdeal.S_ .f32, broadcastInDim RW ![] Cert.ReferenceIdeal.Facts₀.bcast_S_S4096x8192 x j = x ix0 :=
    fun x => broadcastInDim_scalar_apply _ x j
  refine Eq.trans (b := min (broadcastInDim RW ![] Cert.ReferenceIdeal.Facts₀.bcast_S_S4096x8192 hi j : EReal) (max (broadcastInDim RW ![] Cert.ReferenceIdeal.Facts₀.bcast_S_S4096x8192 lo j : EReal)
    (Ideal.liftRound Ideal.roundHalfEven (Ideal.div (Y j) (broadcastInDim RW ![] Cert.ReferenceIdeal.Facts₀.bcast_S_S4096x8192 S j)))) * (broadcastInDim RW ![] Cert.ReferenceIdeal.Facts₀.bcast_S_S4096x8192 S j : EReal)) rfl ?_
  rw [b, b, b]

/-- An entry of the kernel's result is the reference's. -/
theorem qF_at (hs : Split X W m) (c : Dev nD) (i : S4096x2048.Idx) : qF m c i = refOut X W (ix2 (i 0 : Fin 4096) (colOf c (i 1))) := by
  have h := (largest_le m _).mp le_rfl c i
  have e := quant_eq _ _ h
  have l : qF m c i = quant (k0_pay43 (amaxF m)) (k0_pay44 (amaxF m)) (yF m c i) := rfl
  rw [l, quant_at, scale_at, inverse_at, ofBits_bound]
  refine e.trans ?_
  unfold refOut
  rw [refQuant_at, refScale_at, yF_at' hs, max_eq hs ix0, ← ofBits_bound, ← ofBits_negBound]
  rfl

/-- Each device's result is its block of the reference's. -/
theorem qF_eq (hs : Split X W m) (c : Dev nD) : qF m c = Layout.block ⟨2, ![4096, 2048]⟩ ⟨2, ![4096, 8192]⟩ 1 4 c (refOut X W) := by
  funext i
  rw [Layout.block_apply]
  refine (qF_at hs c i).trans (congrArg (refOut X W) (funext fun a => Fin.ext ?_))
  match a with
  | ⟨0, _⟩ => rfl
  | ⟨1, _⟩ => exact (show 2048 * c.val + (i 1).val = c.val * 2048 + (i 1).val by omega)

end Cert.KValue
-- ==== Proof.lean ====
/-
The claims: the kernel runs to the end from any memory, leaves its operands as they were and every counter at zero, whether its
floats are bit patterns or extended reals; and so does the reference. Over the extended reals the two results agree.
-/
module

public import proofs.«01_k».proof.Defs
public import proofs.«01_k».proof.Proof.Gen.Kernel
public import proofs.«01_k».proof.Proof.Gen.ReferenceIdeal.Run
public import proofs.«01_k».proof.Proof.Launch
public import proofs.«01_k».proof.Proof.Meaning

@[expose] public section

set_option maxRecDepth 16384

noncomputable section

namespace Cert.Proof

open Idealize.ShloMosaic Idealize.SL.Sem

/-! ## The two programs have one text -/

theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  fin_cases l
  rfl
theorem defs_eq : Cert.Kernel.defs (F := Bits) = Cert.KernelIdeal.defs (F := Bits) :=
  congrArg (Pipeline.defs (Cert.KernelIdeal.pcfgs (F := Bits))) defs₀_eq

/-! ## The frames -/

theorem frame_any (F : FTy → Type) [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.KProof.run_main m ρ)

/-- The kernel over bit patterns. -/
theorem frame_kernel : Cert.quiescent_Kernel := fun m ρ _ => by
  rw [defs_eq]
  exact frame_any Bits m ρ

/-- The kernel over extended reals. -/
theorem frame_ideal : Cert.quiescent_KernelIdeal := fun m ρ _ => frame_any Ideal m ρ

/-- The reference over extended reals. It has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- Over the extended reals each device ends with its block of the reference's result. -/
theorem same_value : Cert.algebraic_KernelIdeal_ReferenceIdeal := fun m ρ m' ρ' _ hs =>
  ⟨Cert.KValue.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).2.2.trans (Cert.KValue.qF_eq hs c), (h.1 c).1, (h.1 c).2.1⟩) (Cert.KProof.run_main m ρ),
    (θ_run Cert.ReferenceIdeal.defs _ _).mono (fun _ h => h 0) (Cert.ReferenceIdeal.Value.run (F := Ideal) m' ρ')⟩

/-- Everything claimed. -/
theorem claim : Cert.Claim := ⟨Cert.Kernel.Gen.facts, Cert.KernelIdeal.Gen.facts, Cert.ReferenceIdeal.Gen.facts,
  frame_kernel, frame_ideal, frame_reference, trivial, same_value⟩

end Cert.Proof

end
